-- ==== Defs.lean ====
def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_finite_fox [hPre_finite_fox : Cert.Pre_finite_fox.Facts] (m : (ℓ : Loc Cert.FoxIdeal.nD Cert.FoxIdeal.τ Cert.FoxIdeal.sig) → Buf (Elt Ideal) ℓ) : Prop :=
  ∀ c : Dev Cert.FoxIdeal.nD,
    (Cert.Pre_finite_fox.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))) = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_finite_fox [hPre_finite_fox : Cert.Pre_finite_fox.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_finite_fox.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))) = (fun _ => 1#1)

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Inproj (m : (ℓ : Loc Cert.Inproj.nD Cert.Inproj.τ Cert.Inproj.sig) → Buf (Elt Bits) ℓ) : Prop :=
  True

def Pre_InprojIdeal (m : (ℓ : Loc Cert.InprojIdeal.nD Cert.InprojIdeal.τ Cert.InprojIdeal.sig) → Buf (Elt Ideal) ℓ) : Prop :=
  True

def Pre_InprojIdeal_finite_inproj [hPre_finite_inproj : Cert.Pre_finite_inproj.Facts] (m : (ℓ : Loc Cert.InprojIdeal.nD Cert.InprojIdeal.τ Cert.InprojIdeal.sig) → Buf (Elt Ideal) ℓ) : Prop :=
  ∀ c : Dev Cert.InprojIdeal.nD,
    (Cert.Pre_finite_inproj.fn (F := Ideal) (m ((c.tc : Thread Cert.InprojIdeal.nD Cert.InprojIdeal.τ).loc Cert.InprojIdeal.main_arg0)) (m ((c.tc : Thread Cert.InprojIdeal.nD Cert.InprojIdeal.τ).loc Cert.InprojIdeal.main_arg1)) (m ((c.tc : Thread Cert.InprojIdeal.nD Cert.InprojIdeal.τ).loc Cert.InprojIdeal.main_arg2)) (m ((c.tc : Thread Cert.InprojIdeal.nD Cert.InprojIdeal.τ).loc Cert.InprojIdeal.main_arg3)) (m ((c.tc : Thread Cert.InprojIdeal.nD Cert.InprojIdeal.τ).loc Cert.InprojIdeal.main_arg4)) (m ((c.tc : Thread Cert.InprojIdeal.nD Cert.InprojIdeal.τ).loc Cert.InprojIdeal.main_arg5))) = (fun _ => 1#1)

def Pre_InprojRefIdeal (m : (ℓ : Loc Cert.InprojRefIdeal.nD Cert.InprojRefIdeal.τ Cert.InprojRefIdeal.sig) → Buf (Elt Ideal) ℓ) : Prop :=
  True

def Pre_InprojRefIdeal_finite_inproj [hPre_finite_inproj : Cert.Pre_finite_inproj.Facts] (m : (ℓ : Loc Cert.InprojRefIdeal.nD Cert.InprojRefIdeal.τ Cert.InprojRefIdeal.sig) → Buf (Elt Ideal) ℓ) : Prop :=
  ∀ c : Dev Cert.InprojRefIdeal.nD,
    (Cert.Pre_finite_inproj.fn (F := Ideal) (m ((c.tc : Thread Cert.InprojRefIdeal.nD Cert.InprojRefIdeal.τ).loc Cert.InprojRefIdeal.main_arg0)) (m ((c.tc : Thread Cert.InprojRefIdeal.nD Cert.InprojRefIdeal.τ).loc Cert.InprojRefIdeal.main_arg1)) (m ((c.tc : Thread Cert.InprojRefIdeal.nD Cert.InprojRefIdeal.τ).loc Cert.InprojRefIdeal.main_arg2)) (m ((c.tc : Thread Cert.InprojRefIdeal.nD Cert.InprojRefIdeal.τ).loc Cert.InprojRefIdeal.main_arg3)) (m ((c.tc : Thread Cert.InprojRefIdeal.nD Cert.InprojRefIdeal.τ).loc Cert.InprojRefIdeal.main_arg4)) (m ((c.tc : Thread Cert.InprojRefIdeal.nD Cert.InprojRefIdeal.τ).loc Cert.InprojRefIdeal.main_arg5))) = (fun _ => 1#1)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_finite_fox [hFoxIdeal : Cert.FoxIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_finite_fox m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_finite_fox [hFoxRefIdeal : Cert.FoxRefIdeal.Facts] [hPre_finite_fox : Cert.Pre_finite_fox.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_finite_fox m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11))
      ∧ r.2.sem = fun _ => 0)

def quiescent_Inproj [hInproj : Cert.Inproj.Facts] : Prop :=
  ∀ (m : (ℓ : Loc Cert.Inproj.nD Cert.Inproj.τ Cert.Inproj.sig) → Buf (Elt Bits) ℓ) (g : Dev Cert.Inproj.nD → PrngReg), Pre_Inproj m →
    θ_run (Cert.Inproj.defs (F := Bits)) (onTc (τ := Cert.Inproj.τ) (Cert.Inproj.main (F := Bits))) ⟨m, fun _ => 0, g⟩ (fun r => (∀ c : Dev Cert.Inproj.nD,
      r.2.mem ((c.tc : Thread Cert.Inproj.nD Cert.Inproj.τ).loc Cert.Inproj.main_arg0) = m ((c.tc : Thread Cert.Inproj.nD Cert.Inproj.τ).loc Cert.Inproj.main_arg0)
      ∧ r.2.mem ((c.tc : Thread Cert.Inproj.nD Cert.Inproj.τ).loc Cert.Inproj.main_arg1) = m ((c.tc : Thread Cert.Inproj.nD Cert.Inproj.τ).loc Cert.Inproj.main_arg1)
      ∧ r.2.mem ((c.tc : Thread Cert.Inproj.nD Cert.Inproj.τ).loc Cert.Inproj.main_arg2) = m ((c.tc : Thread Cert.Inproj.nD Cert.Inproj.τ).loc Cert.Inproj.main_arg2)
      ∧ r.2.mem ((c.tc : Thread Cert.Inproj.nD Cert.Inproj.τ).loc Cert.Inproj.main_arg3) = m ((c.tc : Thread Cert.Inproj.nD Cert.Inproj.τ).loc Cert.Inproj.main_arg3)
      ∧ r.2.mem ((c.tc : Thread Cert.Inproj.nD Cert.Inproj.τ).loc Cert.Inproj.main_arg4) = m ((c.tc : Thread Cert.Inproj.nD Cert.Inproj.τ).loc Cert.Inproj.main_arg4)
      ∧ r.2.mem ((c.tc : Thread Cert.Inproj.nD Cert.Inproj.τ).loc Cert.Inproj.main_arg5) = m ((c.tc : Thread Cert.Inproj.nD Cert.Inproj.τ).loc Cert.Inproj.main_arg5))
      ∧ r.2.sem = fun _ => 0)

def quiescent_InprojIdeal [hInprojIdeal : Cert.InprojIdeal.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojIdeal_pre_finite_inproj [hInprojIdeal : Cert.InprojIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg), Pre_InprojIdeal_finite_inproj m →
    θ_run (Cert.InprojIdeal.defs (F := Ideal)) (onTc (τ := Cert.InprojIdeal.τ) (Cert.InprojIdeal.main (F := Ideal))) ⟨m, fun _ => 0, g⟩ (fun r => (∀ c : Dev Cert.InprojIdeal.nD,
      r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
      ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
      ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
      ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
      ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
      ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ r.2.sem = fun _ => 0)

def quiescent_InprojRefIdeal [hInprojRefIdeal : Cert.InprojRefIdeal.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def quiescent_InprojRefIdeal_pre_finite_inproj [hInprojRefIdeal : Cert.InprojRefIdeal.Facts] [hPre_finite_inproj : Cert.Pre_finite_inproj.Facts] : Prop :=
  ∀ (m : (ℓ : Loc Cert.InprojRefIdeal.nD Cert.InprojRefIdeal.τ Cert.InprojRefIdeal.sig) → Buf (Elt Ideal) ℓ) (g : Dev Cert.InprojRefIdeal.nD → PrngReg), Pre_InprojRefIdeal_finite_inproj m →
    θ_run (Cert.InprojRefIdeal.defs (F := Ideal)) (onTc (τ := Cert.InprojRefIdeal.τ) (Cert.InprojRefIdeal.main (F := Ideal))) ⟨m, fun _ => 0, g⟩ (fun r => (∀ c : Dev Cert.InprojRefIdeal.nD,
      r.2.mem ((c.tc : Thread Cert.InprojRefIdeal.nD Cert.InprojRefIdeal.τ).loc Cert.InprojRefIdeal.main_arg0) = m ((c.tc : Thread Cert.InprojRefIdeal.nD Cert.InprojRefIdeal.τ).loc Cert.InprojRefIdeal.main_arg0)
      ∧ r.2.mem ((c.tc : Thread Cert.InprojRefIdeal.nD Cert.InprojRefIdeal.τ).loc Cert.InprojRefIdeal.main_arg1) = m ((c.tc : Thread Cert.InprojRefIdeal.nD Cert.InprojRefIdeal.τ).loc Cert.InprojRefIdeal.main_arg1)
      ∧ r.2.mem ((c.tc : Thread Cert.InprojRefIdeal.nD Cert.InprojRefIdeal.τ).loc Cert.InprojRefIdeal.main_arg2) = m ((c.tc : Thread Cert.InprojRefIdeal.nD Cert.InprojRefIdeal.τ).loc Cert.InprojRefIdeal.main_arg2)
      ∧ r.2.mem ((c.tc : Thread Cert.InprojRefIdeal.nD Cert.InprojRefIdeal.τ).loc Cert.InprojRefIdeal.main_arg3) = m ((c.tc : Thread Cert.InprojRefIdeal.nD Cert.InprojRefIdeal.τ).loc Cert.InprojRefIdeal.main_arg3)
      ∧ r.2.mem ((c.tc : Thread Cert.InprojRefIdeal.nD Cert.InprojRefIdeal.τ).loc Cert.InprojRefIdeal.main_arg4) = m ((c.tc : Thread Cert.InprojRefIdeal.nD Cert.InprojRefIdeal.τ).loc Cert.InprojRefIdeal.main_arg4)
      ∧ r.2.mem ((c.tc : Thread Cert.InprojRefIdeal.nD Cert.InprojRefIdeal.τ).loc Cert.InprojRefIdeal.main_arg5) = m ((c.tc : Thread Cert.InprojRefIdeal.nD Cert.InprojRefIdeal.τ).loc Cert.InprojRefIdeal.main_arg5))
      ∧ r.2.sem = fun _ => 0)

def preserves_Fox_FoxIdeal : Prop :=
  IdealRules.named_const.Statement Cert.FoxIdeal.κ "mask" .f32 0xF149F2CA#32 ⊥

def algebraic_FoxIdeal_FoxRefIdeal_pre_finite_fox [hFoxIdeal : Cert.FoxIdeal.Facts] [hFoxRefIdeal : Cert.FoxRefIdeal.Facts] [hPre_finite_fox : Cert.Pre_finite_fox.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_finite_fox m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v2)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v2) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v60) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_Tail_TailIdeal : Prop :=
  True

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)) →
    ∃ (v0 : (c : Dev Cert.TailIdeal.nD) → Buf (Elt Ideal) ((c.tc : Thread Cert.TailIdeal.nD Cert.TailIdeal.τ).loc Cert.TailIdeal.main_v12)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v12) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v59) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11))

def preserves_Inproj_InprojIdeal : Prop :=
  IdealRules.named_const.Statement Cert.InprojIdeal.κ "qscale" .f32 0x3E38AA3B#32 (((1 / 8) * (Real.log 2)⁻¹ : ℝ) : EReal)
  ∧ IdealRules.named_const.Statement Cert.InprojIdeal.κ "log2e" .f32 0x3FB8AA3B#32 (((Real.log 2)⁻¹ : ℝ) : EReal)

def algebraic_InprojIdeal_InprojRefIdeal_pre_finite_inproj [hInprojIdeal : Cert.InprojIdeal.Facts] [hInprojRefIdeal : Cert.InprojRefIdeal.Facts] [hPre_finite_inproj : Cert.Pre_finite_inproj.Facts] : Prop :=
  ∀ (m : (ℓ : Loc Cert.InprojIdeal.nD Cert.InprojIdeal.τ Cert.InprojIdeal.sig) → Buf (Elt Ideal) ℓ) (g : Dev Cert.InprojIdeal.nD → PrngReg)
    (m' : (ℓ : Loc Cert.InprojRefIdeal.nD Cert.InprojRefIdeal.τ Cert.InprojRefIdeal.sig) → Buf (Elt Ideal) ℓ) (g' : Dev Cert.InprojRefIdeal.nD → PrngReg), Pre_InprojIdeal_finite_inproj m →
    (∀ c : Dev Cert.InprojIdeal.nD,
      m' ((c.tc : Thread Cert.InprojRefIdeal.nD Cert.InprojRefIdeal.τ).loc Cert.InprojRefIdeal.main_arg0) = m ((c.tc : Thread Cert.InprojIdeal.nD Cert.InprojIdeal.τ).loc Cert.InprojIdeal.main_arg0)
      ∧ m' ((c.tc : Thread Cert.InprojRefIdeal.nD Cert.InprojRefIdeal.τ).loc Cert.InprojRefIdeal.main_arg1) = m ((c.tc : Thread Cert.InprojIdeal.nD Cert.InprojIdeal.τ).loc Cert.InprojIdeal.main_arg1)
      ∧ m' ((c.tc : Thread Cert.InprojRefIdeal.nD Cert.InprojRefIdeal.τ).loc Cert.InprojRefIdeal.main_arg2) = m ((c.tc : Thread Cert.InprojIdeal.nD Cert.InprojIdeal.τ).loc Cert.InprojIdeal.main_arg2)
      ∧ m' ((c.tc : Thread Cert.InprojRefIdeal.nD Cert.InprojRefIdeal.τ).loc Cert.InprojRefIdeal.main_arg3) = m ((c.tc : Thread Cert.InprojIdeal.nD Cert.InprojIdeal.τ).loc Cert.InprojIdeal.main_arg3)
      ∧ m' ((c.tc : Thread Cert.InprojRefIdeal.nD Cert.InprojRefIdeal.τ).loc Cert.InprojRefIdeal.main_arg4) = m ((c.tc : Thread Cert.InprojIdeal.nD Cert.InprojIdeal.τ).loc Cert.InprojIdeal.main_arg4)
      ∧ m' ((c.tc : Thread Cert.InprojRefIdeal.nD Cert.InprojRefIdeal.τ).loc Cert.InprojRefIdeal.main_arg5) = m ((c.tc : Thread Cert.InprojIdeal.nD Cert.InprojIdeal.τ).loc Cert.InprojIdeal.main_arg5)) →
    ∃ (v0 : (c : Dev Cert.InprojIdeal.nD) → Buf (Elt Ideal) ((c.tc : Thread Cert.InprojIdeal.nD Cert.InprojIdeal.τ).loc Cert.InprojIdeal.main_v47_0)) (v1 : (c : Dev Cert.InprojIdeal.nD) → Buf (Elt Ideal) ((c.tc : Thread Cert.InprojIdeal.nD Cert.InprojIdeal.τ).loc Cert.InprojIdeal.main_v47_1)) (v2 : (c : Dev Cert.InprojIdeal.nD) → Buf (Elt Ideal) ((c.tc : Thread Cert.InprojIdeal.nD Cert.InprojIdeal.τ).loc Cert.InprojIdeal.main_v47_2)) (v3 : (c : Dev Cert.InprojIdeal.nD) → Buf (Elt Ideal) ((c.tc : Thread Cert.InprojIdeal.nD Cert.InprojIdeal.τ).loc Cert.InprojIdeal.main_v47_3)) (v4 : (c : Dev Cert.InprojIdeal.nD) → Buf (Elt Ideal) ((c.tc : Thread Cert.InprojIdeal.nD Cert.InprojIdeal.τ).loc Cert.InprojIdeal.main_v47_4)) (v5 : (c : Dev Cert.InprojIdeal.nD) → Buf (Elt Ideal) ((c.tc : Thread Cert.InprojIdeal.nD Cert.InprojIdeal.τ).loc Cert.InprojIdeal.main_v47_5)),
      θ_run (Cert.InprojIdeal.defs (F := Ideal)) (onTc (τ := Cert.InprojIdeal.τ) (Cert.InprojIdeal.main (F := Ideal))) ⟨m, fun _ => 0, g⟩ (fun r => ∀ c : Dev Cert.InprojIdeal.nD,
          r.2.mem ((c.tc : Thread Cert.InprojIdeal.nD Cert.InprojIdeal.τ).loc Cert.InprojIdeal.main_v47_0) = v0 c
          ∧ r.2.mem ((c.tc : Thread Cert.InprojIdeal.nD Cert.InprojIdeal.τ).loc Cert.InprojIdeal.main_v47_1) = v1 c
          ∧ r.2.mem ((c.tc : Thread Cert.InprojIdeal.nD Cert.InprojIdeal.τ).loc Cert.InprojIdeal.main_v47_2) = v2 c
          ∧ r.2.mem ((c.tc : Thread Cert.InprojIdeal.nD Cert.InprojIdeal.τ).loc Cert.InprojIdeal.main_v47_3) = v3 c
          ∧ r.2.mem ((c.tc : Thread Cert.InprojIdeal.nD Cert.InprojIdeal.τ).loc Cert.InprojIdeal.main_v47_4) = v4 c
          ∧ r.2.mem ((c.tc : Thread Cert.InprojIdeal.nD Cert.InprojIdeal.τ).loc Cert.InprojIdeal.main_v47_5) = v5 c
          ∧ r.2.mem ((c.tc : Thread Cert.InprojIdeal.nD Cert.InprojIdeal.τ).loc Cert.InprojIdeal.main_arg0) = m ((c.tc : Thread Cert.InprojIdeal.nD Cert.InprojIdeal.τ).loc Cert.InprojIdeal.main_arg0)
          ∧ r.2.mem ((c.tc : Thread Cert.InprojIdeal.nD Cert.InprojIdeal.τ).loc Cert.InprojIdeal.main_arg1) = m ((c.tc : Thread Cert.InprojIdeal.nD Cert.InprojIdeal.τ).loc Cert.InprojIdeal.main_arg1)
          ∧ r.2.mem ((c.tc : Thread Cert.InprojIdeal.nD Cert.InprojIdeal.τ).loc Cert.InprojIdeal.main_arg2) = m ((c.tc : Thread Cert.InprojIdeal.nD Cert.InprojIdeal.τ).loc Cert.InprojIdeal.main_arg2)
          ∧ r.2.mem ((c.tc : Thread Cert.InprojIdeal.nD Cert.InprojIdeal.τ).loc Cert.InprojIdeal.main_arg3) = m ((c.tc : Thread Cert.InprojIdeal.nD Cert.InprojIdeal.τ).loc Cert.InprojIdeal.main_arg3)
          ∧ r.2.mem ((c.tc : Thread Cert.InprojIdeal.nD Cert.InprojIdeal.τ).loc Cert.InprojIdeal.main_arg4) = m ((c.tc : Thread Cert.InprojIdeal.nD Cert.InprojIdeal.τ).loc Cert.InprojIdeal.main_arg4)
          ∧ r.2.mem ((c.tc : Thread Cert.InprojIdeal.nD Cert.InprojIdeal.τ).loc Cert.InprojIdeal.main_arg5) = m ((c.tc : Thread Cert.InprojIdeal.nD Cert.InprojIdeal.τ).loc Cert.InprojIdeal.main_arg5))
      ∧ θ_run (Cert.InprojRefIdeal.defs (F := Ideal)) (onTc (τ := Cert.InprojRefIdeal.τ) (Cert.InprojRefIdeal.main (F := Ideal))) ⟨m', fun _ => 0, g'⟩ (fun r => ∀ c : Dev Cert.InprojRefIdeal.nD,
          r.2.mem ((c.tc : Thread Cert.InprojRefIdeal.nD Cert.InprojRefIdeal.τ).loc Cert.InprojRefIdeal.main_v55) = v0 c
          ∧ r.2.mem ((c.tc : Thread Cert.InprojRefIdeal.nD Cert.InprojRefIdeal.τ).loc Cert.InprojRefIdeal.main_v56) = v1 c
          ∧ r.2.mem ((c.tc : Thread Cert.InprojRefIdeal.nD Cert.InprojRefIdeal.τ).loc Cert.InprojRefIdeal.main_v57) = v2 c
          ∧ r.2.mem ((c.tc : Thread Cert.InprojRefIdeal.nD Cert.InprojRefIdeal.τ).loc Cert.InprojRefIdeal.main_v50) = v3 c
          ∧ r.2.mem ((c.tc : Thread Cert.InprojRefIdeal.nD Cert.InprojRefIdeal.τ).loc Cert.InprojRefIdeal.main_v58) = v4 c
          ∧ r.2.mem ((c.tc : Thread Cert.InprojRefIdeal.nD Cert.InprojRefIdeal.τ).loc Cert.InprojRefIdeal.main_v59) = v5 c
          ∧ r.2.mem ((c.tc : Thread Cert.InprojRefIdeal.nD Cert.InprojRefIdeal.τ).loc Cert.InprojRefIdeal.main_arg0) = m' ((c.tc : Thread Cert.InprojRefIdeal.nD Cert.InprojRefIdeal.τ).loc Cert.InprojRefIdeal.main_arg0)
          ∧ r.2.mem ((c.tc : Thread Cert.InprojRefIdeal.nD Cert.InprojRefIdeal.τ).loc Cert.InprojRefIdeal.main_arg1) = m' ((c.tc : Thread Cert.InprojRefIdeal.nD Cert.InprojRefIdeal.τ).loc Cert.InprojRefIdeal.main_arg1)
          ∧ r.2.mem ((c.tc : Thread Cert.InprojRefIdeal.nD Cert.InprojRefIdeal.τ).loc Cert.InprojRefIdeal.main_arg2) = m' ((c.tc : Thread Cert.InprojRefIdeal.nD Cert.InprojRefIdeal.τ).loc Cert.InprojRefIdeal.main_arg2)
          ∧ r.2.mem ((c.tc : Thread Cert.InprojRefIdeal.nD Cert.InprojRefIdeal.τ).loc Cert.InprojRefIdeal.main_arg3) = m' ((c.tc : Thread Cert.InprojRefIdeal.nD Cert.InprojRefIdeal.τ).loc Cert.InprojRefIdeal.main_arg3)
          ∧ r.2.mem ((c.tc : Thread Cert.InprojRefIdeal.nD Cert.InprojRefIdeal.τ).loc Cert.InprojRefIdeal.main_arg4) = m' ((c.tc : Thread Cert.InprojRefIdeal.nD Cert.InprojRefIdeal.τ).loc Cert.InprojRefIdeal.main_arg4)
          ∧ r.2.mem ((c.tc : Thread Cert.InprojRefIdeal.nD Cert.InprojRefIdeal.τ).loc Cert.InprojRefIdeal.main_arg5) = m' ((c.tc : Thread Cert.InprojRefIdeal.nD Cert.InprojRefIdeal.τ).loc Cert.InprojRefIdeal.main_arg5))

def Claim : Prop :=
  ∃ (hFox : Cert.Fox.Facts) (hFoxIdeal : Cert.FoxIdeal.Facts) (hFoxRefIdeal : Cert.FoxRefIdeal.Facts) (hTail : Cert.Tail.Facts) (hTailIdeal : Cert.TailIdeal.Facts) (hTailRefIdeal : Cert.TailRefIdeal.Facts) (hInproj : Cert.Inproj.Facts) (hInprojIdeal : Cert.InprojIdeal.Facts) (hInprojRefIdeal : Cert.InprojRefIdeal.Facts) (hPre_finite_fox : Cert.Pre_finite_fox.Facts) (hPre_finite_inproj : Cert.Pre_finite_inproj.Facts),
    quiescent_Fox (hFox := hFox)
    ∧ quiescent_FoxIdeal (hFoxIdeal := hFoxIdeal)
    ∧ quiescent_FoxIdeal_pre_finite_fox (hFoxIdeal := hFoxIdeal) (hPre_finite_fox := hPre_finite_fox)
    ∧ quiescent_FoxRefIdeal (hFoxRefIdeal := hFoxRefIdeal)
    ∧ quiescent_FoxRefIdeal_pre_finite_fox (hFoxRefIdeal := hFoxRefIdeal) (hPre_finite_fox := hPre_finite_fox)
    ∧ quiescent_Tail (hTail := hTail)
    ∧ quiescent_TailIdeal (hTailIdeal := hTailIdeal)
    ∧ quiescent_TailRefIdeal (hTailRefIdeal := hTailRefIdeal)
    ∧ quiescent_Inproj (hInproj := hInproj)
    ∧ quiescent_InprojIdeal (hInprojIdeal := hInprojIdeal)
    ∧ quiescent_InprojIdeal_pre_finite_inproj (hInprojIdeal := hInprojIdeal) (hPre_finite_inproj := hPre_finite_inproj)
    ∧ quiescent_InprojRefIdeal (hInprojRefIdeal := hInprojRefIdeal)
    ∧ quiescent_InprojRefIdeal_pre_finite_inproj (hInprojRefIdeal := hInprojRefIdeal) (hPre_finite_inproj := hPre_finite_inproj)
    ∧ preserves_Fox_FoxIdeal
    ∧ algebraic_FoxIdeal_FoxRefIdeal_pre_finite_fox (hFoxIdeal := hFoxIdeal) (hFoxRefIdeal := hFoxRefIdeal) (hPre_finite_fox := hPre_finite_fox)
    ∧ preserves_Tail_TailIdeal
    ∧ algebraic_TailIdeal_TailRefIdeal (hTailIdeal := hTailIdeal) (hTailRefIdeal := hTailRefIdeal)
    ∧ preserves_Inproj_InprojIdeal
    ∧ algebraic_InprojIdeal_InprojRefIdeal_pre_finite_inproj (hInprojIdeal := hInprojIdeal) (hInprojRefIdeal := hInprojRefIdeal) (hPre_finite_inproj := hPre_finite_inproj)
-- ==== Pre_finite_fox.lean ====
abbrev S16x1024x4096 : Shape := ⟨3, ![16, 1024, 4096]⟩
abbrev S16x4096x512 : Shape := ⟨3, ![16, 4096, 512]⟩
abbrev S16x4096x128 : Shape := ⟨3, ![16, 4096, 128]⟩
abbrev S512 : Shape := ⟨1, ![512]⟩
abbrev S16x512x4096 : Shape := ⟨3, ![16, 512, 4096]⟩
abbrev S_ : Shape := ⟨0, ![]⟩
abbrev S16x4096x24 : Shape := ⟨3, ![16, 4096, 24]⟩

class Facts : Prop where
  slices_S16x1024x4096_S16x512x4096_0_0_0 : S16x1024x4096.Slices ![0, 0, 0] S16x512x4096
  bitsLt_bf16_f32 : FTy.bits .bf16 < FTy.bits .f32
  bcast_S_S16x512x4096 : S_.BroadcastsInDim S16x512x4096 (![] : Fin 0 → Fin S16x512x4096.rank)
  reducesTo_S16x512x4096_S_d0_1_2 : S16x512x4096.ReducesTo [0, 1, 2] S_
  h_S_ : 0 < S_.numel
  bcast_S_S16x4096x512 : S_.BroadcastsInDim S16x4096x512 (![] : Fin 0 → Fin S16x4096x512.rank)
  reducesTo_S16x4096x512_S_d0_1_2 : S16x4096x512.ReducesTo [0, 1, 2] S_
  slices_S16x4096x128_S16x4096x24_0_0_0 : S16x4096x128.Slices ![0, 0, 0] S16x4096x24
  bcast_S_S16x4096x24 : S_.BroadcastsInDim S16x4096x24 (![] : Fin 0 → Fin S16x4096x24.rank)
  reducesTo_S16x4096x24_S_d0_1_2 : S16x4096x24.ReducesTo [0, 1, 2] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S16x1024x4096 .bf16) (main_arg1 : FVec F S16x4096x512 .bf16) (main_arg2 : FVec F S16x4096x128 .bf16) (main_arg3 : FVec F S512 .f32) : IVec S_ 1 :=
  let main_v0 : FVec F S16x512x4096 .bf16 := (extractStridedSlice S16x512x4096 ![0, 0, 0] · slices_S16x1024x4096_S16x512x4096_0_0_0) main_arg0
  let main_v1 : FVec F S16x512x4096 .f32 := (extf .f32 · bitsLt_bf16_f32) main_v0
  let main_v2 : FVec F S16x512x4096 .f32 := Host.absf main_v1
  let main_cst : FVec F S_ .f32 := constant S_ .f32 0x7F800000#32
  let main_v3 : FVec F S16x512x4096 .f32 := broadcastInDim S16x512x4096 ![] bcast_S_S16x512x4096 main_cst
  let main_v4 : IVec S16x512x4096 1 := cmpf .olt main_v2 main_v3
  let main_c : IVec S_ 1 := constantI S_ 1 1#1
  let main_v5 : IVec S_ 1 := (fun x v => Host.reduce IntOp.andi x v reducesTo_S16x512x4096_S_d0_1_2 h_S_) main_v4 main_c
  let main_v6 : FVec F S16x4096x512 .f32 := (extf .f32 · bitsLt_bf16_f32) main_arg1
  let main_v7 : FVec F S16x4096x512 .f32 := Host.absf main_v6
  let main_cst_0 : FVec F S_ .f32 := constant S_ .f32 0x7F800000#32
  let main_v8 : FVec F S16x4096x512 .f32 := broadcastInDim S16x4096x512 ![] bcast_S_S16x4096x512 main_cst_0
  let main_v9 : IVec S16x4096x512 1 := cmpf .olt main_v7 main_v8
  let main_c_1 : IVec S_ 1 := constantI S_ 1 1#1
  let main_v10 : IVec S_ 1 := (fun x v => Host.reduce IntOp.andi x v reducesTo_S16x4096x512_S_d0_1_2 h_S_) main_v9 main_c_1
  let main_v11 : IVec S_ 1 := andi main_v5 main_v10
  let main_v12 : FVec F S16x4096x24 .bf16 := (extractStridedSlice S16x4096x24 ![0, 0, 0] · slices_S16x4096x128_S16x4096x24_0_0_0) main_arg2
  let main_v13 : FVec F S16x4096x24 .f32 := (extf .f32 · bitsLt_bf16_f32) main_v12
  let main_v14 : FVec F S16x4096x24 .f32 := Host.absf main_v13
  let main_cst_2 : FVec F S_ .f32 := constant S_ .f32 0x7F800000#32
  let main_v15 : FVec F S16x4096x24 .f32 := broadcastInDim S16x4096x24 ![] bcast_S_S16x4096x24 main_cst_2
  let main_v16 : IVec S16x4096x24 1 := cmpf .olt main_v14 main_v15
  let main_c_3 : IVec S_ 1 := constantI S_ 1 1#1
  let main_v17 : IVec S_ 1 := (fun x v => Host.reduce IntOp.andi x v reducesTo_S16x4096x24_S_d0_1_2 h_S_) main_v16 main_c_3
  fn_part1 (F := F) main_v11 main_v17
-- ==== Pre_finite_inproj.lean ====
abbrev S16x4096x1024 : Shape := ⟨3, ![16, 4096, 1024]⟩
abbrev S1024x3600 : Shape := ⟨2, ![1024, 3600]⟩
abbrev S8 : Shape := ⟨1, ![8]⟩
abbrev S4 : Shape := ⟨1, ![4]⟩
abbrev S1024 : Shape := ⟨1, ![1024]⟩
abbrev S_ : Shape := ⟨0, ![]⟩
abbrev S1024x8 : Shape := ⟨2, ![1024, 8]⟩
abbrev S1024x4 : Shape := ⟨2, ![1024, 4]⟩

class Facts : Prop where
  bcast_S_S1024 : S_.BroadcastsInDim S1024 (![] : Fin 0 → Fin S1024.rank)
  reducesTo_S1024_S_d0 : S1024.ReducesTo [0] S_
  h_S_ : 0 < S_.numel
  slices_S1024x3600_S1024x8_0_1536 : S1024x3600.Slices ![0, 1536] S1024x8
  bcast_S_S1024x8 : S_.BroadcastsInDim S1024x8 (![] : Fin 0 → Fin S1024x8.rank)
  reducesTo_S1024x8_S_d0_1 : S1024x8.ReducesTo [0, 1] S_
  slices_S1024x3600_S1024x4_0_3084 : S1024x3600.Slices ![0, 3084] S1024x4
  bcast_S_S1024x4 : S_.BroadcastsInDim S1024x4 (![] : Fin 0 → Fin S1024x4.rank)
  reducesTo_S1024x4_S_d0_1 : S1024x4.ReducesTo [0, 1] S_
  bcast_S_S8 : S_.BroadcastsInDim S8 (![] : Fin 0 → Fin S8.rank)
  reducesTo_S8_S_d0 : S8.ReducesTo [0] S_
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_v15 : IVec S_ 1) (main_v16 : FVec F S8 .f32) (main_cst_4 : FVec F S_ .f32) : IVec S_ 1 :=
  let main_v17 : FVec F S8 .f32 := broadcastInDim S8 ![] bcast_S_S8 main_cst_4
  let main_v18 : IVec S8 1 := cmpf .olt main_v16 main_v17
  let main_c_5 : IVec S_ 1 := constantI S_ 1 1#1
  let main_v19 : IVec S_ 1 := (fun x v => Host.reduce IntOp.andi x v reducesTo_S8_S_d0 h_S_) main_v18 main_c_5
  let main_v20 : IVec S_ 1 := andi main_v15 main_v19
  let main_v21 : FVec F S4 .f32 := Host.absf main_arg4
  let main_cst_6 : FVec F S_ .f32 := constant S_ .f32 0x7F800000#32
  let main_v22 : FVec F S4 .f32 := broadcastInDim S4 ![] bcast_S_S4 main_cst_6
  let main_v23 : IVec S4 1 := cmpf .olt main_v21 main_v22
  let main_c_7 : IVec S_ 1 := constantI S_ 1 1#1
  let main_v24 : IVec S_ 1 := (fun x v => Host.reduce IntOp.andi x v reducesTo_S4_S_d0 h_S_) main_v23 main_c_7
  let main_v25 : IVec S_ 1 := andi main_v20 main_v24
  main_v25

def fn {F : FTy → Type} [FloatOps F] (main_arg0 : FVec F S16x4096x1024 .f32) (main_arg1 : FVec F S1024x3600 .f32) (main_arg2 : FVec F S8 .f32) (main_arg3 : FVec F S4 .f32) (main_arg4 : FVec F S4 .f32) (main_arg5 : FVec F S1024 .f32) : IVec S_ 1 :=
  let main_v0 : FVec F S1024 .f32 := Host.absf main_arg5
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := (extractStridedSlice S1024x8 ![0, 1536] · slices_S1024x3600_S1024x8_0_1536) main_arg1
  let main_v5 : FVec F S1024x8 .f32 := Host.absf main_v4
  let main_cst_0 : FVec F S_ .f32 := constant S_ .f32 0x7F800000#32
  let main_v6 : FVec F S1024x8 .f32 := broadcastInDim S1024x8 ![] bcast_S_S1024x8 main_cst_0
  let main_v7 : IVec S1024x8 1 := cmpf .olt main_v5 main_v6
  let main_c_1 : IVec S_ 1 := constantI S_ 1 1#1
  let main_v8 : IVec S_ 1 := (fun x v => Host.reduce IntOp.andi x v reducesTo_S1024x8_S_d0_1 h_S_) main_v7 main_c_1
  let main_v9 : IVec S_ 1 := andi main_v3 main_v8
  let main_v10 : FVec F S1024x4 .f32 := (extractStridedSlice S1024x4 ![0, 3084] · slices_S1024x3600_S1024x4_0_3084) main_arg1
  let main_v11 : FVec F S1024x4 .f32 := Host.absf main_v10
  let main_cst_2 : FVec F S_ .f32 := constant S_ .f32 0x7F800000#32
  let main_v12 : FVec F S1024x4 .f32 := broadcastInDim S1024x4 ![] bcast_S_S1024x4 main_cst_2
  let main_v13 : IVec S1024x4 1 := cmpf .olt main_v11 main_v12
  let main_c_3 : IVec S_ 1 := constantI S_ 1 1#1
  let main_v14 : IVec S_ 1 := (fun x v => Host.reduce IntOp.andi x v reducesTo_S1024x4_S_d0_1 h_S_) main_v13 main_c_3
  let main_v15 : IVec S_ 1 := andi main_v9 main_v14
  let main_v16 : FVec F S8 .f32 := Host.absf main_arg2
  let main_cst_4 : FVec F S_ .f32 := constant S_ .f32 0x7F800000#32
  fn_part1 (F := F) main_arg4 main_v15 main_v16 main_cst_4
-- ==== Fox.lean ====
abbrev S16x1024x4096 : Shape := ⟨3, ![16, 1024, 4096]⟩
abbrev S16x4096x512 : Shape := ⟨3, ![16, 4096, 512]⟩
abbrev S16x4096x128 : Shape := ⟨3, ![16, 4096, 128]⟩
abbrev S512 : Shape := ⟨1, ![512]⟩
abbrev S512x1 : Shape := ⟨2, ![512, 1]⟩
abbrev S512x256 : Shape := ⟨2, ![512, 256]⟩
abbrev S1x128x256 : Shape := ⟨3, ![1, 128, 256]⟩
abbrev S1x128x4096 : Shape := ⟨3, ![1, 128, 4096]⟩
abbrev S1x4096x128 : Shape := ⟨3, ![1, 4096, 128]⟩
abbrev S128x256 : Shape := ⟨2, ![128, 256]⟩
abbrev S1x256x128 : Shape := ⟨3, ![1, 256, 128]⟩
abbrev S256x256 : Shape := ⟨2, ![256, 256]⟩
abbrev S1x256 : Shape := ⟨2, ![1, 256]⟩
abbrev S64x256 : Shape := ⟨2, ![64, 256]⟩
abbrev S256x128 : Shape := ⟨2, ![256, 128]⟩
abbrev S256 : Shape := ⟨1, ![256]⟩
abbrev S1x64x256 : Shape := ⟨3, ![1, 64, 256]⟩

abbrev nBuf : Space → Nat
  | .hbm => 7
  | .vmem => 12
  | .smem => 0
  | _ => 0

abbrev bufTy : (tb : Table) → Fin (tcTables nBuf tb) → BufTy
  | .hbm, ⟨0, _⟩ => ⟨S16x1024x4096, .bf16⟩
  | .hbm, ⟨1, _⟩ => ⟨S16x4096x512, .bf16⟩
  | .hbm, ⟨2, _⟩ => ⟨S16x4096x128, .bf16⟩
  | .hbm, ⟨3, _⟩ => ⟨S512, .f32⟩
  | .hbm, ⟨4, _⟩ => ⟨S512x1, .f32⟩
  | .hbm, ⟨5, _⟩ => ⟨S512x256, .f32⟩
  | .hbm, ⟨6, _⟩ => ⟨S16x4096x512, .bf16⟩
  | .local _ .vmem, ⟨0, _⟩ => ⟨S1x128x256, .bf16⟩
  | .local _ .vmem, ⟨1, _⟩ => ⟨S1x128x256, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S128x256, .f32⟩
  | .local _ .vmem, ⟨9, _⟩ => ⟨S128x256, .f32⟩
  | .local _ .vmem, ⟨10, _⟩ => ⟨S1x256x128, .bf16⟩
  | .local _ .vmem, ⟨11, _⟩ => ⟨S1x256x128, .bf16⟩
  | _, _ => ⟨S16x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 16], ![false, false, false]⟩

@[reducible] def k0_t1_loop (i : grid0.Coords) : Scf.Loop 32 :=
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let c1_i32_27 : BitVec 32 := 1#32
  ⟨c0_i32_25, v68, c1_i32_27⟩
def k0_mult1 (i : grid0.Coords) (k0_t1 : Fin (k0_t1_loop i).trips) : BitVec 32 :=
  let c0_i32_25 : BitVec 32 := 0#32
  let c1_i32_27 : BitVec 32 := 1#32
  let arg9 : BitVec 32 := Scf.iv c0_i32_25 c1_i32_27 k0_t1
  let c256_i32_57 : BitVec 32 := 256#32
  let v159 : BitVec 32 := Scalar.muli arg9 c256_i32_57
  v159
def k0_off1 (i : grid0.Coords) (k0_t1 : Fin (k0_t1_loop i).trips) : Fin 3 → Nat :=
  let c0_58 : Index := 0#32
  let c0_i32_25 : BitVec 32 := 0#32
  let c1_i32_27 : BitVec 32 := 1#32
  let arg9 : BitVec 32 := Scf.iv c0_i32_25 c1_i32_27 k0_t1
  let c256_i32_57 : BitVec 32 := 256#32
  let v159 : BitVec 32 := Scalar.muli arg9 c256_i32_57
  let v160 : BitVec 32 := v159
  let v161 : Index := Scalar.indexCast v160
  let c0_59 : Index := 0#32
  ![0, v161.toNat, 0]
def k0_off2 (i : grid0.Coords) (k0_t1 : Fin (k0_t1_loop i).trips) : Fin 3 → Nat :=
  let c0_65 : Index := 0#32
  let c0_66 : Index := 0#32
  let c0_i32_25 : BitVec 32 := 0#32
  let c1_i32_27 : BitVec 32 := 1#32
  let arg9 : BitVec 32 := Scf.iv c0_i32_25 c1_i32_27 k0_t1
  let c256_i32_57 : BitVec 32 := 256#32
  let v159 : BitVec 32 := Scalar.muli arg9 c256_i32_57
  let v160 : BitVec 32 := v159
  let v181 : Index := Scalar.indexCast v160
  ![0, 0, v181.toNat]
def k0_off3 (i : grid0.Coords) (k0_t1 : Fin (k0_t1_loop i).trips) : Fin 3 → Nat :=
  let c0_71 : Index := 0#32
  let c64_72 : Index := 64#32
  let c0_i32_25 : BitVec 32 := 0#32
  let c1_i32_27 : BitVec 32 := 1#32
  let arg9 : BitVec 32 := Scf.iv c0_i32_25 c1_i32_27 k0_t1
  let c256_i32_57 : BitVec 32 := 256#32
  let v159 : BitVec 32 := Scalar.muli arg9 c256_i32_57
  let v160 : BitVec 32 := v159
  let v202 : Index := Scalar.indexCast v160
  ![0, 64, v202.toNat]
@[reducible] def k0_t2_loop (i : grid0.Coords) : Scf.Loop 32 :=
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let v65 : BitVec 32 := Scalar.addi c0_i32_25 v64
  let c1_i32_28 : BitVec 32 := 1#32
  ⟨v68, v65, c1_i32_28⟩
def k0_mult2 (i : grid0.Coords) (k0_t2 : Fin (k0_t2_loop i).trips) : BitVec 32 :=
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let c1_i32_28 : BitVec 32 := 1#32
  let arg9 : BitVec 32 := Scf.iv v68 c1_i32_28 k0_t2
  let c256_i32_57 : BitVec 32 := 256#32
  let v159 : BitVec 32 := Scalar.muli arg9 c256_i32_57
  v159
def k0_off4 (i : grid0.Coords) (k0_t2 : Fin (k0_t2_loop i).trips) : Fin 3 → Nat :=
  let c0_58 : Index := 0#32
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let c1_i32_28 : BitVec 32 := 1#32
  let arg9 : BitVec 32 := Scf.iv v68 c1_i32_28 k0_t2
  let c256_i32_57 : BitVec 32 := 256#32
  let v159 : BitVec 32 := Scalar.muli arg9 c256_i32_57
  let v160 : BitVec 32 := v159
  let v161 : Index := Scalar.indexCast v160
  let c0_59 : Index := 0#32
  ![0, v161.toNat, 0]
def k0_off5 (i : grid0.Coords) (k0_t2 : Fin (k0_t2_loop i).trips) : Fin 3 → Nat :=
  let c0_65 : Index := 0#32
  let c0_66 : Index := 0#32
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let c1_i32_28 : BitVec 32 := 1#32
  let arg9 : BitVec 32 := Scf.iv v68 c1_i32_28 k0_t2
  let c256_i32_57 : BitVec 32 := 256#32
  let v159 : BitVec 32 := Scalar.muli arg9 c256_i32_57
  let v160 : BitVec 32 := v159
  let v181 : Index := Scalar.indexCast v160
  ![0, 0, v181.toNat]
def k0_off6 (i : grid0.Coords) (k0_t2 : Fin (k0_t2_loop i).trips) : Fin 3 → Nat :=
  let c0_71 : Index := 0#32
  let c64_72 : Index := 64#32
  let c0_i32_25 : BitVec 32 := 0#32
  let arg2 : BitVec 32 := BitVec.ofNat 32 (i 2).val
  let v64 : BitVec 32 := Scalar.subi arg2 c0_i32_25
  let c1_i32_26 : BitVec 32 := 1#32
  let v66 : BitVec 32 := Scalar.divsi v64 c1_i32_26
  let v67 : BitVec 32 := Scalar.muli v66 c1_i32_26
  let v68 : BitVec 32 := Scalar.addi c0_i32_25 v67
  let c1_i32_28 : BitVec 32 := 1#32
  let arg9 : BitVec 32 := Scf.iv v68 c1_i32_28 k0_t2
  let c256_i32_57 : BitVec 32 := 256#32
  let v159 : BitVec 32 := Scalar.muli arg9 c256_i32_57
  let v160 : BitVec 32 := v159
  let v202 : Index := Scalar.indexCast v160
  ![0, 64, v202.toNat]
def k0_mult3 (i : grid0.Coords) : BitVec 32 :=
  let arg2 : BitVec 32 := BitVec.ofNat 32 (i 2).val
  let c256_i32 : BitVec 32 := 256#32
  let v71 : BitVec 32 := Scalar.muli arg2 c256_i32
  v71
def k0_off7 (i : grid0.Coords) : Fin 3 → Nat :=
  let c0_29 : Index := 0#32
  let arg2 : BitVec 32 := BitVec.ofNat 32 (i 2).val
  let c256_i32 : BitVec 32 := 256#32
  let v71 : BitVec 32 := Scalar.muli arg2 c256_i32
  let v72 : BitVec 32 := v71
  let v73 : Index := Scalar.indexCast v72
  let c0_30 : Index := 0#32
  ![0, v73.toNat, 0]
def k0_off8 (i : grid0.Coords) : Fin 3 → Nat :=
  let c0_37 : Index := 0#32
  let c0_38 : Index := 0#32
  let arg2 : BitVec 32 := BitVec.ofNat 32 (i 2).val
  let c256_i32 : BitVec 32 := 256#32
  let v71 : BitVec 32 := Scalar.muli arg2 c256_i32
  let v72 : BitVec 32 := v71
  let v95 : Index := Scalar.indexCast v72
  ![0, 0, v95.toNat]
def k0_off9 (i : grid0.Coords) : Fin 3 → Nat :=
  let c0_44 : Index := 0#32
  let c64 : Index := 64#32
  let arg2 : BitVec 32 := BitVec.ofNat 32 (i 2).val
  let c256_i32 : BitVec 32 := 256#32
  let v71 : BitVec 32 := Scalar.muli arg2 c256_i32
  let v72 : BitVec 32 := v71
  let v118 : Index := Scalar.indexCast v72
  ![0, 64, v118.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x128x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== FoxIdeal.lean ====
variable {F : FTy → Type} [FloatOps F] [Named F]
def κ : String → Option EReal := fun
  | "mask" => some ⊥
  | _ => none
-- ==== FoxRefIdeal.lean ====
abbrev S16x1024x4096 : Shape := ⟨3, ![16, 1024, 4096]⟩
abbrev S16x4096x512 : Shape := ⟨3, ![16, 4096, 512]⟩
abbrev S16x4096x128 : Shape := ⟨3, ![16, 4096, 128]⟩
abbrev S512 : Shape := ⟨1, ![512]⟩
abbrev S16x512x4096 : Shape := ⟨3, ![16, 512, 4096]⟩
abbrev S16x8x64x4096 : Shape := ⟨4, ![16, 8, 64, 4096]⟩
abbrev S16x8x4096x64 : Shape := ⟨4, ![16, 8, 4096, 64]⟩
abbrev S16x4096x8x64 : Shape := ⟨4, ![16, 4096, 8, 64]⟩
abbrev S16x4096x24 : Shape := ⟨3, ![16, 4096, 24]⟩
abbrev S16x4096x8x3 : Shape := ⟨4, ![16, 4096, 8, 3]⟩
abbrev S_ : Shape := ⟨0, ![]⟩
abbrev S16x4096x8 : Shape := ⟨3, ![16, 4096, 8]⟩
abbrev S16x8x4096 : Shape := ⟨3, ![16, 8, 4096]⟩
abbrev S16x8x4096x4096 : Shape := ⟨4, ![16, 8, 4096, 4096]⟩
abbrev S16x8x4096x1 : Shape := ⟨4, ![16, 8, 4096, 1]⟩
abbrev S16x8x1x4096 : Shape := ⟨4, ![16, 8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096x8x1 : Shape := ⟨4, ![16, 4096, 8, 1]⟩
abbrev S1x1x512 : Shape := ⟨3, ![1, 1, 512]⟩

abbrev nBuf : Space → Nat
  | .hbm => 77
  | .vmem => 0
  | .smem => 0
  | _ => 0

abbrev bufTy : (tb : Table) → Fin (tcTables nBuf tb) → BufTy
  | .hbm, ⟨0, _⟩ => ⟨S16x1024x4096, .bf16⟩
  | .hbm, ⟨1, _⟩ => ⟨S16x4096x512, .bf16⟩
  | .hbm, ⟨2, _⟩ => ⟨S16x4096x128, .bf16⟩
  | .hbm, ⟨3, _⟩ => ⟨S512, .f32⟩
  | .hbm, ⟨4, _⟩ => ⟨S16x512x4096, .bf16⟩
  | .hbm, ⟨5, _⟩ => ⟨S16x512x4096, .f32⟩
  | .hbm, ⟨6, _⟩ => ⟨S16x8x64x4096, .f32⟩
  | .hbm, ⟨7, _⟩ => ⟨S16x8x4096x64, .f32⟩
  | .hbm, ⟨8, _⟩ => ⟨S16x512x4096, .bf16⟩
  | .hbm, ⟨9, _⟩ => ⟨S16x512x4096, .f32⟩
  | .hbm, ⟨10, _⟩ => ⟨S16x8x64x4096, .f32⟩
  | .hbm, ⟨11, _⟩ => ⟨S16x8x4096x64, .f32⟩
  | .hbm, ⟨12, _⟩ => ⟨S16x4096x512, .f32⟩
  | .hbm, ⟨13, _⟩ => ⟨S16x4096x8x64, .f32⟩
  | .hbm, ⟨14, _⟩ => ⟨S16x8x4096x64, .f32⟩
  | .hbm, ⟨15, _⟩ => ⟨S16x4096x24, .bf16⟩
  | .hbm, ⟨16, _⟩ => ⟨S16x4096x24, .f32⟩
  | .hbm, ⟨17, _⟩ => ⟨S16x4096x8x3, .f32⟩
  | .hbm, ⟨18, _⟩ => ⟨S_, .f32⟩
  | .hbm, ⟨19, _⟩ => ⟨S16x4096x8, .f32⟩
  | .hbm, ⟨20, _⟩ => ⟨S16x8x4096, .f32⟩
  | .hbm, ⟨21, _⟩ => ⟨S16x8x4096x4096, .f32⟩
  | .hbm, ⟨22, _⟩ => ⟨S16x8x4096x1, .f32⟩
  | .hbm, ⟨23, _⟩ => ⟨S16x8x4096x4096, .f32⟩
  | .hbm, ⟨24, _⟩ => ⟨S16x8x4096x4096, .f32⟩
  | .hbm, ⟨25, _⟩ => ⟨S16x8x1x4096, .f32⟩
  | .hbm, ⟨26, _⟩ => ⟨S16x8x4096x4096, .f32⟩
  | .hbm, ⟨27, _⟩ => ⟨S16x8x4096x4096, .f32⟩
  | .hbm, ⟨28, _⟩ => ⟨S4096, .i32⟩
  | .hbm, ⟨29, _⟩ => ⟨S1x4096, .i32⟩
  | .hbm, ⟨30, _⟩ => ⟨S4096x1, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S_, .f32⟩
  | .hbm, ⟨35, _⟩ => ⟨S_, .f32⟩
  | .hbm, ⟨36, _⟩ => ⟨S16x8x4096x4096, .f32⟩
  | .hbm, ⟨37, _⟩ => ⟨S16x8x4096x4096, .f32⟩
  | .hbm, ⟨38, _⟩ => ⟨S_, .f32⟩
  | .hbm, ⟨39, _⟩ => ⟨S_, .f32⟩
  | .hbm, ⟨40, _⟩ => ⟨S16x8x4096x4096, .i1⟩
  | .hbm, ⟨41, _⟩ => ⟨S16x8x4096x4096, .f32⟩
  | .hbm, ⟨42, _⟩ => ⟨S16x8x4096x4096, .f32⟩
  | .hbm, ⟨43, _⟩ => ⟨S_, .f32⟩
  | .hbm, ⟨44, _⟩ => ⟨S16x8x4096, .f32⟩
  | .hbm, ⟨45, _⟩ => ⟨S_, .f32⟩
  | .hbm, ⟨46, _⟩ => ⟨S16x8x4096, .f32⟩
  | .hbm, ⟨47, _⟩ => ⟨S16x8x4096, .f32⟩
  | .hbm, ⟨48, _⟩ => ⟨S16x8x4096x1, .f32⟩
  | .hbm, ⟨49, _⟩ => ⟨S16x8x4096x4096, .f32⟩
  | .hbm, ⟨50, _⟩ => ⟨S16x8x4096x4096, .f32⟩
  | .hbm, ⟨51, _⟩ => ⟨S16x8x4096x4096, .f32⟩
  | .hbm, ⟨52, _⟩ => ⟨S_, .f32⟩
  | .hbm, ⟨53, _⟩ => ⟨S16x8x4096, .f32⟩
  | .hbm, ⟨54, _⟩ => ⟨S16x8x4096x1, .f32⟩
  | .hbm, ⟨55, _⟩ => ⟨S16x8x4096x4096, .f32⟩
  | .hbm, ⟨56, _⟩ => ⟨S16x8x4096x4096, .f32⟩
  | .hbm, ⟨57, _⟩ => ⟨S16x8x4096x64, .f32⟩
  | .hbm, ⟨58, _⟩ => ⟨S16x4096x8x64, .f32⟩
  | .hbm, ⟨59, _⟩ => ⟨S16x4096x8x64, .f32⟩
  | .hbm, ⟨60, _⟩ => ⟨S_, .f32⟩
  | .hbm, ⟨61, _⟩ => ⟨S16x4096x8, .f32⟩
  | .hbm, ⟨62, _⟩ => ⟨S16x4096x8x1, .f32⟩
  | .hbm, ⟨63, _⟩ => ⟨S_, .f32⟩
  | .hbm, ⟨64, _⟩ => ⟨S16x4096x8x1, .f32⟩
  | .hbm, ⟨65, _⟩ => ⟨S16x4096x8x1, .f32⟩
  | .hbm, ⟨66, _⟩ => ⟨S_, .f32⟩
  | .hbm, ⟨67, _⟩ => ⟨S16x4096x8x1, .f32⟩
  | .hbm, ⟨68, _⟩ => ⟨S16x4096x8x1, .f32⟩
  | .hbm, ⟨69, _⟩ => ⟨S16x4096x8x1, .f32⟩
  | .hbm, ⟨70, _⟩ => ⟨S16x4096x8x64, .f32⟩
  | .hbm, ⟨71, _⟩ => ⟨S16x4096x8x64, .f32⟩
  | .hbm, ⟨72, _⟩ => ⟨S16x4096x512, .f32⟩
  | .hbm, ⟨73, _⟩ => ⟨S1x1x512, .f32⟩
  | .hbm, ⟨74, _⟩ => ⟨S16x4096x512, .f32⟩
  | .hbm, ⟨75, _⟩ => ⟨S16x4096x512, .f32⟩
  | .hbm, ⟨76, _⟩ => ⟨S16x4096x512, .bf16⟩
  | _, _ => ⟨S16x1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_0 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_1 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_cst_3 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_cst_5 : Ref sig .tc := ⟨.hbm, 60, rfl⟩
abbrev main_v47 : Ref sig .tc := ⟨.hbm, 61, rfl⟩
abbrev main_v48 : Ref sig .tc := ⟨.hbm, 62, rfl⟩
abbrev main_cst_6 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Tail.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S65536x1024 : Shape := ⟨2, ![65536, 1024]⟩
abbrev S65536x512 : Shape := ⟨2, ![65536, 512]⟩
abbrev S65536x256 : Shape := ⟨2, ![65536, 256]⟩
abbrev S1x1024 : Shape := ⟨2, ![1, 1024]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩

abbrev nBuf : Space → Nat
  | .hbm => 25
  | .vmem => 18
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S65536x1024, .f32⟩
  | .hbm, ⟨13, _⟩ => ⟨S65536x512, .bf16⟩
  | .hbm, ⟨14, _⟩ => ⟨S65536x512, .bf16⟩
  | .hbm, ⟨15, _⟩ => ⟨S65536x256, .f32⟩
  | .hbm, ⟨16, _⟩ => ⟨S1024x1024, .bf16⟩
  | .hbm, ⟨17, _⟩ => ⟨S1024x4096, .bf16⟩
  | .hbm, ⟨18, _⟩ => ⟨S4096x1024, .bf16⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x256, .f32⟩
  | .local _ .vmem, ⟨7, _⟩ => ⟨S512x256, .f32⟩
  | .local _ .vmem, ⟨8, _⟩ => ⟨S1024x1024, .bf16⟩
  | .local _ .vmem, ⟨9, _⟩ => ⟨S1024x4096, .bf16⟩
  | .local _ .vmem, ⟨10, _⟩ => ⟨S4096x1024, .bf16⟩
  | .local _ .vmem, ⟨11, _⟩ => ⟨S1024x1024, .bf16⟩
  | .local _ .vmem, ⟨12, _⟩ => ⟨S256x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .f32⟩
  | .local _ .vmem, ⟨17, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== TailRefIdeal.lean ====
abbrev S16x4096x1024 : Shape := ⟨3, ![16, 4096, 1024]⟩
abbrev S16x4096x512 : Shape := ⟨3, ![16, 4096, 512]⟩
abbrev S16x4096x256 : Shape := ⟨3, ![16, 4096, 256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩
abbrev S65536x1024 : Shape := ⟨2, ![65536, 1024]⟩

abbrev nBuf : Space → Nat
  | .hbm => 85
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x512, .bf16⟩
  | .hbm, ⟨2, _⟩ => ⟨S16x4096x512, .bf16⟩
  | .hbm, ⟨3, _⟩ => ⟨S16x4096x256, .f32⟩
  | .hbm, ⟨4, _⟩ => ⟨S1024x1024, .f32⟩
  | .hbm, ⟨5, _⟩ => ⟨S1024, .f32⟩
  | .hbm, ⟨6, _⟩ => ⟨S1024x4096, .f32⟩
  | .hbm, ⟨7, _⟩ => ⟨S4096x1024, .f32⟩
  | .hbm, ⟨8, _⟩ => ⟨S256x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S16x4096x512, .f32⟩
  | .hbm, ⟨13, _⟩ => ⟨S16x4096x512, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S16x4096x1024, .f32⟩
  | .hbm, ⟨18, _⟩ => ⟨S_, .f32⟩
  | .hbm, ⟨19, _⟩ => ⟨S16x4096, .f32⟩
  | .hbm, ⟨20, _⟩ => ⟨S16x4096x1, .f32⟩
  | .hbm, ⟨21, _⟩ => ⟨S_, .f32⟩
  | .hbm, ⟨22, _⟩ => ⟨S16x4096x1, .f32⟩
  | .hbm, ⟨23, _⟩ => ⟨S16x4096x1, .f32⟩
  | .hbm, ⟨24, _⟩ => ⟨S_, .f32⟩
  | .hbm, ⟨25, _⟩ => ⟨S16x4096x1, .f32⟩
  | .hbm, ⟨26, _⟩ => ⟨S16x4096x1, .f32⟩
  | .hbm, ⟨27, _⟩ => ⟨S16x4096x1, .f32⟩
  | .hbm, ⟨28, _⟩ => ⟨S16x4096x1024, .f32⟩
  | .hbm, ⟨29, _⟩ => ⟨S16x4096x1024, .f32⟩
  | .hbm, ⟨30, _⟩ => ⟨S1x1x1024, .f32⟩
  | .hbm, ⟨31, _⟩ => ⟨S16x4096x1024, .f32⟩
  | .hbm, ⟨32, _⟩ => ⟨S16x4096x1024, .f32⟩
  | .hbm, ⟨33, _⟩ => ⟨S16x4096x4096, .f32⟩
  | .hbm, ⟨34, _⟩ => ⟨S_, .f32⟩
  | .hbm, ⟨35, _⟩ => ⟨S16x4096x4096, .f32⟩
  | .hbm, ⟨36, _⟩ => ⟨S16x4096x4096, .f32⟩
  | .hbm, ⟨37, _⟩ => ⟨S16x4096x4096, .f32⟩
  | .hbm, ⟨38, _⟩ => ⟨S16x4096x1024, .f32⟩
  | .hbm, ⟨39, _⟩ => ⟨S16x4096x1024, .f32⟩
  | .hbm, ⟨40, _⟩ => ⟨S16x4096x1024, .f32⟩
  | .hbm, ⟨41, _⟩ => ⟨S_, .f32⟩
  | .hbm, ⟨42, _⟩ => ⟨S16x4096, .f32⟩
  | .hbm, ⟨43, _⟩ => ⟨S16x4096x1, .f32⟩
  | .hbm, ⟨44, _⟩ => ⟨S_, .f32⟩
  | .hbm, ⟨45, _⟩ => ⟨S16x4096x1, .f32⟩
  | .hbm, ⟨46, _⟩ => ⟨S16x4096x1, .f32⟩
  | .hbm, ⟨47, _⟩ => ⟨S_, .f32⟩
  | .hbm, ⟨48, _⟩ => ⟨S16x4096x1, .f32⟩
  | .hbm, ⟨49, _⟩ => ⟨S16x4096x1, .f32⟩
  | .hbm, ⟨50, _⟩ => ⟨S16x4096x1, .f32⟩
  | .hbm, ⟨51, _⟩ => ⟨S16x4096x1024, .f32⟩
  | .hbm, ⟨52, _⟩ => ⟨S16x4096x1024, .f32⟩
  | .hbm, ⟨53, _⟩ => ⟨S1x1x1024, .f32⟩
  | .hbm, ⟨54, _⟩ => ⟨S16x4096x1024, .f32⟩
  | .hbm, ⟨55, _⟩ => ⟨S16x4096x1024, .f32⟩
  | .hbm, ⟨56, _⟩ => ⟨S16x4096x1024, .f32⟩
  | .hbm, ⟨57, _⟩ => ⟨S16x4096x1024, .f32⟩
  | .hbm, ⟨58, _⟩ => ⟨S16x4096x1024, .f32⟩
  | .hbm, ⟨59, _⟩ => ⟨S_, .f32⟩
  | .hbm, ⟨60, _⟩ => ⟨S16x4096x1024, .f32⟩
  | .hbm, ⟨61, _⟩ => ⟨S16x4096x1024, .f32⟩
  | .hbm, ⟨62, _⟩ => ⟨S_, .f32⟩
  | .hbm, ⟨63, _⟩ => ⟨S16x4096x1024, .f32⟩
  | .hbm, ⟨64, _⟩ => ⟨S16x4096x1024, .f32⟩
  | .hbm, ⟨65, _⟩ => ⟨S16x4096x1024, .f32⟩
  | .hbm, ⟨66, _⟩ => ⟨S16x4096x1024, .f32⟩
  | .hbm, ⟨67, _⟩ => ⟨S16x4096x1024, .f32⟩
  | .hbm, ⟨68, _⟩ => ⟨S16x4096x1024, .f32⟩
  | .hbm, ⟨69, _⟩ => ⟨S_, .f32⟩
  | .hbm, ⟨70, _⟩ => ⟨S16x4096, .f32⟩
  | .hbm, ⟨71, _⟩ => ⟨S16x4096x1, .f32⟩
  | .hbm, ⟨72, _⟩ => ⟨S_, .f32⟩
  | .hbm, ⟨73, _⟩ => ⟨S16x4096x1, .f32⟩
  | .hbm, ⟨74, _⟩ => ⟨S16x4096x1, .f32⟩
  | .hbm, ⟨75, _⟩ => ⟨S_, .f32⟩
  | .hbm, ⟨76, _⟩ => ⟨S16x4096x1, .f32⟩
  | .hbm, ⟨77, _⟩ => ⟨S16x4096x1, .f32⟩
  | .hbm, ⟨78, _⟩ => ⟨S16x4096x1, .f32⟩
  | .hbm, ⟨79, _⟩ => ⟨S16x4096x1024, .f32⟩
  | .hbm, ⟨80, _⟩ => ⟨S16x4096x1024, .f32⟩
  | .hbm, ⟨81, _⟩ => ⟨S1x1x1024, .f32⟩
  | .hbm, ⟨82, _⟩ => ⟨S16x4096x1024, .f32⟩
  | .hbm, ⟨83, _⟩ => ⟨S16x4096x1024, .f32⟩
  | .hbm, ⟨84, _⟩ => ⟨S65536x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_cst_1 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_call0_cst : Ref sig .tc := ⟨.hbm, 34, rfl⟩
abbrev main_call0_v0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_cst_3 : Ref sig .tc := ⟨.hbm, 44, rfl⟩
abbrev main_v26 : Ref sig .tc := ⟨.hbm, 45, rfl⟩
abbrev main_v27 : Ref sig .tc := ⟨.hbm, 46, rfl⟩
abbrev main_cst_4 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_5 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_7 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_cst_9 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩

abbrev nD : Nat := 1
abbrev τ : Topo := Topo.v7x

variable {F : FTy → Type} [FloatOps F]
-- ==== Inproj.lean ====
abbrev S16x4096x1024 : Shape := ⟨3, ![16, 4096, 1024]⟩
abbrev S1024x3600 : Shape := ⟨2, ![1024, 3600]⟩
abbrev S8 : Shape := ⟨1, ![8]⟩
abbrev S4 : Shape := ⟨1, ![4]⟩
abbrev S1024 : Shape := ⟨1, ![1024]⟩
abbrev S1024x512 : Shape := ⟨2, ![1024, 512]⟩
abbrev S1024x8 : Shape := ⟨2, ![1024, 8]⟩
abbrev S1024x4 : Shape := ⟨2, ![1024, 4]⟩
abbrev S1024x16 : Shape := ⟨2, ![1024, 16]⟩
abbrev S_ : Shape := ⟨0, ![]⟩
abbrev S1024x128 : Shape := ⟨2, ![1024, 128]⟩
abbrev S1024x2688 : Shape := ⟨2, ![1024, 2688]⟩
abbrev S1024x1024 : Shape := ⟨2, ![1024, 1024]⟩
abbrev S16 : Shape := ⟨1, ![16]⟩
abbrev S128 : Shape := ⟨1, ![128]⟩
abbrev S1x128 : Shape := ⟨2, ![1, 128]⟩
abbrev S1x1024 : Shape := ⟨2, ![1, 1024]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S384 : Shape := ⟨1, ![384]⟩
abbrev S384x1 : Shape := ⟨2, ![384, 1]⟩
abbrev S384x128 : Shape := ⟨2, ![384, 128]⟩
abbrev S16x4096x512 : Shape := ⟨3, ![16, 4096, 512]⟩
abbrev S16x4096x2048 : Shape := ⟨3, ![16, 4096, 2048]⟩
abbrev S16x1024x4096 : Shape := ⟨3, ![16, 1024, 4096]⟩
abbrev S16x4096x128 : Shape := ⟨3, ![16, 4096, 128]⟩
abbrev S16x128x4096 : Shape := ⟨3, ![16, 128, 4096]⟩
abbrev S1x512x1024 : Shape := ⟨3, ![1, 512, 1024]⟩
abbrev S1x512x512 : Shape := ⟨3, ![1, 512, 512]⟩
abbrev S1x512x2048 : Shape := ⟨3, ![1, 512, 2048]⟩
abbrev S1x1024x512 : Shape := ⟨3, ![1, 1024, 512]⟩
abbrev S1x512x128 : Shape := ⟨3, ![1, 512, 128]⟩
abbrev S1x128x512 : Shape := ⟨3, ![1, 128, 512]⟩
abbrev S512x1024 : Shape := ⟨2, ![512, 1024]⟩
abbrev S512x2688 : Shape := ⟨2, ![512, 2688]⟩
abbrev S512x2048 : Shape := ⟨2, ![512, 2048]⟩
abbrev S512x128 : Shape := ⟨2, ![512, 128]⟩
abbrev S512x384 : Shape := ⟨2, ![512, 384]⟩
abbrev S128x128 : Shape := ⟨2, ![128, 128]⟩
abbrev S128x512 : Shape := ⟨2, ![128, 512]⟩

abbrev nBuf : Space → Nat
  | .hbm => 103
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S1024x3600, .f32⟩
  | .hbm, ⟨2, _⟩ => ⟨S8, .f32⟩
  | .hbm, ⟨3, _⟩ => ⟨S4, .f32⟩
  | .hbm, ⟨4, _⟩ => ⟨S4, .f32⟩
  | .hbm, ⟨5, _⟩ => ⟨S1024, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x8, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x4, .f32⟩
  | .hbm, ⟨14, _⟩ => ⟨S1024x4, .f32⟩
  | .hbm, ⟨15, _⟩ => ⟨S1024x512, .f32⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x2688, .f32⟩
  | .hbm, ⟨21, _⟩ => ⟨S1024x2688, .bf16⟩
  | .hbm, ⟨22, _⟩ => ⟨S1024x1024, .f32⟩
  | .hbm, ⟨23, _⟩ => ⟨S1024x1024, .f32⟩
  | .hbm, ⟨24, _⟩ => ⟨S1024x1024, .bf16⟩
  | .hbm, ⟨25, _⟩ => ⟨S16, .f32⟩
  | .hbm, ⟨26, _⟩ => ⟨S_, .i32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S1x1024, .f32⟩
  | .hbm, ⟨31, _⟩ => ⟨S512, .i32⟩
  | .hbm, ⟨32, _⟩ => ⟨S512x1, .i32⟩
  | .hbm, ⟨33, _⟩ => ⟨S512, .i32⟩
  | .hbm, ⟨34, _⟩ => ⟨S1x512, .i32⟩
  | .hbm, ⟨35, _⟩ => ⟨S512x512, .i32⟩
  | .hbm, ⟨36, _⟩ => ⟨S512x512, .i32⟩
  | .hbm, ⟨37, _⟩ => ⟨S512x512, .i1⟩
  | .hbm, ⟨38, _⟩ => ⟨S512x512, .bf16⟩
  | .hbm, ⟨39, _⟩ => ⟨S384, .i32⟩
  | .hbm, ⟨40, _⟩ => ⟨S_, .i32⟩
  | .hbm, ⟨41, _⟩ => ⟨S_, .i32⟩
  | .hbm, ⟨42, _⟩ => ⟨S384, .i32⟩
  | .hbm, ⟨43, _⟩ => ⟨S384, .i32⟩
  | .hbm, ⟨44, _⟩ => ⟨S384, .i32⟩
  | .hbm, ⟨45, _⟩ => ⟨S_, .i32⟩
  | .hbm, ⟨46, _⟩ => ⟨S384, .i32⟩
  | .hbm, ⟨47, _⟩ => ⟨S384, .i1⟩
  | .hbm, ⟨48, _⟩ => ⟨S384, .i32⟩
  | .hbm, ⟨49, _⟩ => ⟨S384, .i32⟩
  | .hbm, ⟨50, _⟩ => ⟨S_, .i32⟩
  | .hbm, ⟨51, _⟩ => ⟨S384, .i32⟩
  | .hbm, ⟨52, _⟩ => ⟨S384, .i1⟩
  | .hbm, ⟨53, _⟩ => ⟨S384, .i1⟩
  | .hbm, ⟨54, _⟩ => ⟨S_, .i32⟩
  | .hbm, ⟨55, _⟩ => ⟨S384, .i32⟩
  | .hbm, ⟨56, _⟩ => ⟨S384, .i32⟩
  | .hbm, ⟨57, _⟩ => ⟨S384, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S384, .i32⟩
  | .hbm, ⟨65, _⟩ => ⟨S384, .i32⟩
  | .hbm, ⟨66, _⟩ => ⟨S_, .i32⟩
  | .hbm, ⟨67, _⟩ => ⟨S384, .i32⟩
  | .hbm, ⟨68, _⟩ => ⟨S384, .i1⟩
  | .hbm, ⟨69, _⟩ => ⟨S_, .i32⟩
  | .hbm, ⟨70, _⟩ => ⟨S384, .i32⟩
  | .hbm, ⟨71, _⟩ => ⟨S384, .i1⟩
  | .hbm, ⟨72, _⟩ => ⟨S_, .i32⟩
  | .hbm, ⟨73, _⟩ => ⟨S_, .i1⟩
  | .hbm, ⟨74, _⟩ => ⟨S384, .i1⟩
  | .hbm, ⟨75, _⟩ => ⟨S384, .i1⟩
  | .hbm, ⟨76, _⟩ => ⟨S384, .i1⟩
  | .hbm, ⟨77, _⟩ => ⟨S384, .i32⟩
  | .hbm, ⟨78, _⟩ => ⟨S384, .i32⟩
  | .hbm, ⟨79, _⟩ => ⟨S384, .i32⟩
  | .hbm, ⟨80, _⟩ => ⟨S384x1, .i32⟩
  | .hbm, ⟨81, _⟩ => ⟨S_, .i32⟩
  | .hbm, ⟨82, _⟩ => ⟨S384x1, .i32⟩
  | .hbm, ⟨83, _⟩ => ⟨S384x1, .i1⟩
  | .hbm, ⟨84, _⟩ => ⟨S128, .i32⟩
  | .hbm, ⟨85, _⟩ => ⟨S1x128, .i32⟩
  | .hbm, ⟨86, _⟩ => ⟨S_, .i32⟩
  | .hbm, ⟨87, _⟩ => ⟨S384, .i32⟩
  | .hbm, ⟨88, _⟩ => ⟨S384, .i32⟩
  | .hbm, ⟨89, _⟩ => ⟨S384, .i32⟩
  | .hbm, ⟨90, _⟩ => ⟨S384x1, .i32⟩
  | .hbm, ⟨91, _⟩ => ⟨S384x128, .i32⟩
  | .hbm, ⟨92, _⟩ => ⟨S384x128, .i32⟩
  | .hbm, ⟨93, _⟩ => ⟨S384x128, .i1⟩
  | .hbm, ⟨94, _⟩ => ⟨S384x128, .i1⟩
  | .hbm, ⟨95, _⟩ => ⟨S384x128, .i1⟩
  | .hbm, ⟨96, _⟩ => ⟨S384x128, .bf16⟩
  | .hbm, ⟨97, _⟩ => ⟨S16x4096x512, .bf16⟩
  | .hbm, ⟨98, _⟩ => ⟨S16x4096x2048, .bf16⟩
  | .hbm, ⟨99, _⟩ => ⟨S16x1024x4096, .bf16⟩
  | .hbm, ⟨100, _⟩ => ⟨S16x4096x128, .f32⟩
  | .hbm, ⟨101, _⟩ => ⟨S16x128x4096, .f32⟩
  | .hbm, ⟨102, _⟩ => ⟨S16x4096x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2688, .bf16⟩
  | .local _ .vmem, ⟨4, _⟩ => ⟨S1024x1024, .bf16⟩
  | .local _ .vmem, ⟨5, _⟩ => ⟨S1x128, .f32⟩
  | .local _ .vmem, ⟨6, _⟩ => ⟨S512x512, .bf16⟩
  | .local _ .vmem, ⟨7, _⟩ => ⟨S384x128, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x2048, .bf16⟩
  | .local _ .vmem, ⟨11, _⟩ => ⟨S1x512x2048, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x128, .f32⟩
  | .local _ .vmem, ⟨15, _⟩ => ⟨S1x512x128, .f32⟩
  | .local _ .vmem, ⟨16, _⟩ => ⟨S1x128x512, .f32⟩
  | .local _ .vmem, ⟨17, _⟩ => ⟨S1x128x512, .f32⟩
  | .local _ .vmem, ⟨18, _⟩ => ⟨S1x512x128, .bf16⟩
  | .local _ .vmem, ⟨19, _⟩ => ⟨S1x512x128, .bf16⟩
  | .local _ .vmem, ⟨20, _⟩ => ⟨S1x128, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c : Ref sig .tc := ⟨.hbm, 17, rfl⟩
abbrev main_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_c_0 : Ref sig .tc := ⟨.hbm, 26, rfl⟩
abbrev main_call1_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_c_1 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_call2_v3 : Ref sig .tc := ⟨.hbm, 44, rfl⟩
abbrev main_call2_v4 : Ref sig .tc := ⟨.hbm, 45, rfl⟩
abbrev main_call2_v5 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_c : Ref sig .tc := ⟨.hbm, 50, rfl⟩
abbrev main_call2_v9 : Ref sig .tc := ⟨.hbm, 51, rfl⟩
abbrev main_call2_v10 : Ref sig .tc := ⟨.hbm, 52, rfl⟩
abbrev main_call2_v11 : Ref sig .tc := ⟨.hbm, 53, rfl⟩
abbrev main_call2_c_0 : Ref sig .tc := ⟨.hbm, 54, rfl⟩
abbrev main_call2_v12 : Ref sig .tc := ⟨.hbm, 55, rfl⟩
abbrev main_call2_v13 : Ref sig .tc := ⟨.hbm, 56, rfl⟩
abbrev main_v30 : Ref sig .tc := ⟨.hbm, 57, rfl⟩
abbrev main_c_2 : Ref sig .tc := ⟨.hbm, 58, rfl⟩
abbrev main_call3_v0 : Ref sig .tc := ⟨.hbm, 59, rfl⟩
abbrev main_call3_c : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_c_1 : Ref sig .tc := ⟨.hbm, 66, rfl⟩
abbrev main_call3_v5 : Ref sig .tc := ⟨.hbm, 67, rfl⟩
abbrev main_call3_v6 : Ref sig .tc := ⟨.hbm, 68, rfl⟩
abbrev main_call3_c_2 : Ref sig .tc := ⟨.hbm, 69, rfl⟩
abbrev main_call3_v7 : Ref sig .tc := ⟨.hbm, 70, rfl⟩
abbrev main_call3_v8 : Ref sig .tc := ⟨.hbm, 71, rfl⟩
abbrev main_call3_c_3 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_v12 : Ref sig .tc := ⟨.hbm, 76, rfl⟩
abbrev main_call3_v13 : Ref sig .tc := ⟨.hbm, 77, rfl⟩
abbrev main_call3_v14 : Ref sig .tc := ⟨.hbm, 78, rfl⟩
abbrev main_v31 : Ref sig .tc := ⟨.hbm, 79, rfl⟩
abbrev main_v32 : Ref sig .tc := ⟨.hbm, 80, rfl⟩
abbrev main_c_3 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_c_4 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩
abbrev main_v47_0 : Ref sig .tc := ⟨.hbm, 97, rfl⟩
abbrev main_v47_1 : Ref sig .tc := ⟨.hbm, 98, rfl⟩
abbrev main_v47_2 : Ref sig .tc := ⟨.hbm, 99, rfl⟩
abbrev main_v47_3 : Ref sig .tc := ⟨.hbm, 100, rfl⟩
abbrev main_v47_4 : Ref sig .tc := ⟨.hbm, 101, rfl⟩
abbrev main_v47_5 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2688 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== InprojIdeal.lean ====
variable {F : FTy → Type} [FloatOps F] [Named F]
def κ : String → Option EReal := fun
  | "log2e" => some (((Real.log 2)⁻¹ : ℝ) : EReal)
  | "qscale" => some (((1 / 8) * (Real.log 2)⁻¹ : ℝ) : EReal)
  | _ => none
-- ==== InprojRefIdeal.lean ====
abbrev S16x4096x1024 : Shape := ⟨3, ![16, 4096, 1024]⟩
abbrev S1024x3600 : Shape := ⟨2, ![1024, 3600]⟩
abbrev S8 : Shape := ⟨1, ![8]⟩
abbrev S4 : Shape := ⟨1, ![4]⟩
abbrev S1024 : Shape := ⟨1, ![1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x3600 : Shape := ⟨3, ![16, 4096, 3600]⟩
abbrev S16x4096x512 : Shape := ⟨3, ![16, 4096, 512]⟩
abbrev S16x4096x8 : Shape := ⟨3, ![16, 4096, 8]⟩
abbrev S16x4096x4 : Shape := ⟨3, ![16, 4096, 4]⟩
abbrev S16x1024x4096 : Shape := ⟨3, ![16, 1024, 4096]⟩
abbrev S16x4096x2048 : Shape := ⟨3, ![16, 4096, 2048]⟩
abbrev S1x1x8 : Shape := ⟨3, ![1, 1, 8]⟩
abbrev S1x1x4 : Shape := ⟨3, ![1, 1, 4]⟩
abbrev S16x4096x116 : Shape := ⟨3, ![16, 4096, 116]⟩
abbrev S16x32x128x116 : Shape := ⟨4, ![16, 32, 128, 116]⟩
abbrev S16x4096x128 : Shape := ⟨3, ![16, 4096, 128]⟩
abbrev S16x4096x8x1 : Shape := ⟨4, ![16, 4096, 8, 1]⟩
abbrev S16x4096x8x3 : Shape := ⟨4, ![16, 4096, 8, 3]⟩
abbrev S16x4096x24 : Shape := ⟨3, ![16, 4096, 24]⟩
abbrev S16x128x4096 : Shape := ⟨3, ![16, 128, 4096]⟩

abbrev nBuf : Space → Nat
  | .hbm => 111
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024x3600, .f32⟩
  | .hbm, ⟨2, _⟩ => ⟨S8, .f32⟩
  | .hbm, ⟨3, _⟩ => ⟨S4, .f32⟩
  | .hbm, ⟨4, _⟩ => ⟨S4, .f32⟩
  | .hbm, ⟨5, _⟩ => ⟨S1024, .f32⟩
  | .hbm, ⟨6, _⟩ => ⟨S16x4096x1024, .f32⟩
  | .hbm, ⟨7, _⟩ => ⟨S_, .f32⟩
  | .hbm, ⟨8, _⟩ => ⟨S16x4096, .f32⟩
  | .hbm, ⟨9, _⟩ => ⟨S16x4096x1, .f32⟩
  | .hbm, ⟨10, _⟩ => ⟨S_, .f32⟩
  | .hbm, ⟨11, _⟩ => ⟨S16x4096x1, .f32⟩
  | .hbm, ⟨12, _⟩ => ⟨S16x4096x1, .f32⟩
  | .hbm, ⟨13, _⟩ => ⟨S_, .f32⟩
  | .hbm, ⟨14, _⟩ => ⟨S16x4096x1, .f32⟩
  | .hbm, ⟨15, _⟩ => ⟨S16x4096x1, .f32⟩
  | .hbm, ⟨16, _⟩ => ⟨S16x4096x1, .f32⟩
  | .hbm, ⟨17, _⟩ => ⟨S16x4096x1024, .f32⟩
  | .hbm, ⟨18, _⟩ => ⟨S16x4096x1024, .f32⟩
  | .hbm, ⟨19, _⟩ => ⟨S1x1x1024, .f32⟩
  | .hbm, ⟨20, _⟩ => ⟨S16x4096x1024, .f32⟩
  | .hbm, ⟨21, _⟩ => ⟨S16x4096x1024, .f32⟩
  | .hbm, ⟨22, _⟩ => ⟨S16x4096x3600, .f32⟩
  | .hbm, ⟨23, _⟩ => ⟨S16x4096x512, .f32⟩
  | .hbm, ⟨24, _⟩ => ⟨S16x4096x512, .f32⟩
  | .hbm, ⟨25, _⟩ => ⟨S16x4096x512, .f32⟩
  | .hbm, ⟨26, _⟩ => ⟨S16x4096x8, .f32⟩
  | .hbm, ⟨27, _⟩ => ⟨S16x4096x512, .f32⟩
  | .hbm, ⟨28, _⟩ => ⟨S16x4096x512, .f32⟩
  | .hbm, ⟨29, _⟩ => ⟨S16x4096x512, .f32⟩
  | .hbm, ⟨30, _⟩ => ⟨S16x4096x4, .f32⟩
  | .hbm, ⟨31, _⟩ => ⟨S16x4096x4, .f32⟩
  | .hbm, ⟨32, _⟩ => ⟨S16x4096x512, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16x4096x512, .f32⟩
  | .hbm, ⟨37, _⟩ => ⟨S16x4096x512, .f32⟩
  | .hbm, ⟨38, _⟩ => ⟨S16x4096x512, .f32⟩
  | .hbm, ⟨39, _⟩ => ⟨S16x4096x512, .f32⟩
  | .hbm, ⟨40, _⟩ => ⟨S16x4096x1024, .f32⟩
  | .hbm, ⟨41, _⟩ => ⟨S16x1024x4096, .f32⟩
  | .hbm, ⟨42, _⟩ => ⟨S16x4096x2048, .f32⟩
  | .hbm, ⟨43, _⟩ => ⟨S1x1x8, .f32⟩
  | .hbm, ⟨44, _⟩ => ⟨S16x4096x8, .f32⟩
  | .hbm, ⟨45, _⟩ => ⟨S16x4096x8, .f32⟩
  | .hbm, ⟨46, _⟩ => ⟨S16x4096x8, .f32⟩
  | .hbm, ⟨47, _⟩ => ⟨S_, .f32⟩
  | .hbm, ⟨48, _⟩ => ⟨S16x4096x8, .f32⟩
  | .hbm, ⟨49, _⟩ => ⟨S16x4096x8, .f32⟩
  | .hbm, ⟨50, _⟩ => ⟨S16x4096x8, .f32⟩
  | .hbm, ⟨51, _⟩ => ⟨S16x4096x8, .f32⟩
  | .hbm, ⟨52, _⟩ => ⟨S16x4096x8, .i1⟩
  | .hbm, ⟨53, _⟩ => ⟨S16x4096x8, .f32⟩
  | .hbm, ⟨54, _⟩ => ⟨S16x4096x8, .f32⟩
  | .hbm, ⟨55, _⟩ => ⟨S16x4096x8, .f32⟩
  | .hbm, ⟨56, _⟩ => ⟨S16x4096x8, .f32⟩
  | .hbm, ⟨57, _⟩ => ⟨S16x4096x8, .f32⟩
  | .hbm, ⟨58, _⟩ => ⟨S16x4096x8, .f32⟩
  | .hbm, ⟨59, _⟩ => ⟨S16x4096x8, .f32⟩
  | .hbm, ⟨60, _⟩ => ⟨S16x4096x8, .f32⟩
  | .hbm, ⟨61, _⟩ => ⟨S16x4096x8, .f32⟩
  | .hbm, ⟨62, _⟩ => ⟨S_, .f32⟩
  | .hbm, ⟨63, _⟩ => ⟨S_, .f32⟩
  | .hbm, ⟨64, _⟩ => ⟨S16x4096x8, .f32⟩
  | .hbm, ⟨65, _⟩ => ⟨S16x4096x8, .f32⟩
  | .hbm, ⟨66, _⟩ => ⟨S16x4096x8, .f32⟩
  | .hbm, ⟨67, _⟩ => ⟨S1x1x4, .f32⟩
  | .hbm, ⟨68, _⟩ => ⟨S16x4096x4, .f32⟩
  | .hbm, ⟨69, _⟩ => ⟨S16x4096x4, .f32⟩
  | .hbm, ⟨70, _⟩ => ⟨S_, .i32⟩
  | .hbm, ⟨71, _⟩ => ⟨S_, .f32⟩
  | .hbm, ⟨72, _⟩ => ⟨S16x4096x116, .f32⟩
  | .hbm, ⟨73, _⟩ => ⟨S16x4096x116, .f32⟩
  | .hbm, ⟨74, _⟩ => ⟨S_, .f32⟩
  | .hbm, ⟨75, _⟩ => ⟨S16x4096x116, .f32⟩
  | .hbm, ⟨76, _⟩ => ⟨S16x4096x116, .f32⟩
  | .hbm, ⟨77, _⟩ => ⟨S16x4096x116, .f32⟩
  | .hbm, ⟨78, _⟩ => ⟨S16x4096x116, .f32⟩
  | .hbm, ⟨79, _⟩ => ⟨S16x4096x116, .i1⟩
  | .hbm, ⟨80, _⟩ => ⟨S16x4096x116, .f32⟩
  | .hbm, ⟨81, _⟩ => ⟨S16x4096x116, .f32⟩
  | .hbm, ⟨82, _⟩ => ⟨S16x4096x116, .f32⟩
  | .hbm, ⟨83, _⟩ => ⟨S16x4096x116, .f32⟩
  | .hbm, ⟨84, _⟩ => ⟨S16x4096x116, .f32⟩
  | .hbm, ⟨85, _⟩ => ⟨S16x4096x116, .f32⟩
  | .hbm, ⟨86, _⟩ => ⟨S16x4096x116, .f32⟩
  | .hbm, ⟨87, _⟩ => ⟨S16x4096x116, .f32⟩
  | .hbm, ⟨88, _⟩ => ⟨S16x4096x116, .f32⟩
  | .hbm, ⟨89, _⟩ => ⟨S16x32x128x116, .f32⟩
  | .hbm, ⟨90, _⟩ => ⟨S_, .f32⟩
  | .hbm, ⟨91, _⟩ => ⟨S_, .f32⟩
  | .hbm, ⟨92, _⟩ => ⟨S16x32x128x116, .f32⟩
  | .hbm, ⟨93, _⟩ => ⟨S16x4096x116, .f32⟩
  | .hbm, ⟨94, _⟩ => ⟨S1x1x4, .f32⟩
  | .hbm, ⟨95, _⟩ => ⟨S16x4096x4, .f32⟩
  | .hbm, ⟨96, _⟩ => ⟨S16x4096x4, .f32⟩
  | .hbm, ⟨97, _⟩ => ⟨S16x4096x128, .f32⟩
  | .hbm, ⟨98, _⟩ => ⟨S16x4096x8x1, .f32⟩
  | .hbm, ⟨99, _⟩ => ⟨S_, .i32⟩
  | .hbm, ⟨100, _⟩ => ⟨S_, .f32⟩
  | .hbm, ⟨101, _⟩ => ⟨S16x4096x8x3, .f32⟩
  | .hbm, ⟨102, _⟩ => ⟨S16x4096x24, .f32⟩
  | .hbm, ⟨103, _⟩ => ⟨S_, .i32⟩
  | .hbm, ⟨104, _⟩ => ⟨S_, .f32⟩
  | .hbm, ⟨105, _⟩ => ⟨S16x4096x128, .f32⟩
  | .hbm, ⟨106, _⟩ => ⟨S16x4096x512, .bf16⟩
  | .hbm, ⟨107, _⟩ => ⟨S16x4096x2048, .bf16⟩
  | .hbm, ⟨108, _⟩ => ⟨S16x1024x4096, .bf16⟩
  | .hbm, ⟨109, _⟩ => ⟨S16x128x4096, .f32⟩
  | .hbm, ⟨110, _⟩ => ⟨S16x4096x128, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call0_v0 : Ref sig .tc := ⟨.hbm, 46, rfl⟩
abbrev main_call0_call0_cst : Ref sig .tc := ⟨.hbm, 47, rfl⟩
abbrev main_call0_call0_v0 : Ref sig .tc := ⟨.hbm, 48, rfl⟩
abbrev main_call0_call0_v1 : Ref sig .tc := ⟨.hbm, 49, rfl⟩
abbrev main_call0_call0_v2 : Ref sig .tc := ⟨.hbm, 50, rfl⟩
abbrev main_call0_call0_v3 : Ref sig .tc := ⟨.hbm, 51, rfl⟩
abbrev main_call0_call0_v4 : Ref sig .tc := ⟨.hbm, 52, rfl⟩
abbrev main_call0_call0_v5 : Ref sig .tc := ⟨.hbm, 53, rfl⟩
abbrev main_call0_call0_v6 : Ref sig .tc := ⟨.hbm, 54, rfl⟩
abbrev main_call0_call0_v7 : Ref sig .tc := ⟨.hbm, 55, rfl⟩
abbrev main_call0_call0_v8 : Ref sig .tc := ⟨.hbm, 56, rfl⟩
abbrev main_call0_call0_v9 : Ref sig .tc := ⟨.hbm, 57, rfl⟩
abbrev main_call0_call0_v10 : Ref sig .tc := ⟨.hbm, 58, rfl⟩
abbrev main_call0_call0_v11 : Ref sig .tc := ⟨.hbm, 59, rfl⟩
abbrev main_call0_v1 : Ref sig .tc := ⟨.hbm, 60, rfl⟩
abbrev main_v35 : Ref sig .tc := ⟨.hbm, 61, rfl⟩
abbrev main_call1_call0_cst : Ref sig .tc := ⟨.hbm, 62, rfl⟩
abbrev main_call1_call0_v0 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c : Ref sig .tc := ⟨.hbm, 70, rfl⟩
abbrev main_call2_v0 : Ref sig .tc := ⟨.hbm, 71, rfl⟩
abbrev main_v42 : Ref sig .tc := ⟨.hbm, 72, rfl⟩
abbrev main_call3_v0 : Ref sig .tc := ⟨.hbm, 73, rfl⟩
abbrev main_call3_call0_cst : Ref sig .tc := ⟨.hbm, 74, rfl⟩
abbrev main_call3_call0_v0 : Ref sig .tc := ⟨.hbm, 75, rfl⟩
abbrev main_call3_call0_v1 : Ref sig .tc := ⟨.hbm, 76, rfl⟩
abbrev main_call3_call0_v2 : Ref sig .tc := ⟨.hbm, 77, rfl⟩
abbrev main_call3_call0_v3 : Ref sig .tc := ⟨.hbm, 78, rfl⟩
abbrev main_call3_call0_v4 : Ref sig .tc := ⟨.hbm, 79, rfl⟩
abbrev main_call3_call0_v5 : Ref sig .tc := ⟨.hbm, 80, rfl⟩
abbrev main_call3_call0_v6 : Ref sig .tc := ⟨.hbm, 81, rfl⟩
abbrev main_call3_call0_v7 : Ref sig .tc := ⟨.hbm, 82, rfl⟩
abbrev main_call3_call0_v8 : Ref sig .tc := ⟨.hbm, 83, rfl⟩
abbrev main_call3_call0_v9 : Ref sig .tc := ⟨.hbm, 84, rfl⟩
abbrev main_call3_call0_v10 : Ref sig .tc := ⟨.hbm, 85, rfl⟩
abbrev main_call3_call0_v11 : Ref sig .tc := ⟨.hbm, 86, rfl⟩
abbrev main_call3_v1 : Ref sig .tc := ⟨.hbm, 87, rfl⟩
abbrev main_v43 : Ref sig .tc := ⟨.hbm, 88, rfl⟩
abbrev main_v44 : Ref sig .tc := ⟨.hbm, 89, rfl⟩
abbrev main_call4_call0_cst : Ref sig .tc := ⟨.hbm, 90, rfl⟩
abbrev main_call4_call0_v0 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_c_4 : Ref sig .tc := ⟨.hbm, 99, rfl⟩
abbrev main_call5_v0 : Ref sig .tc := ⟨.hbm, 100, rfl⟩
abbrev main_v52 : Ref sig .tc := ⟨.hbm, 101, rfl⟩
abbrev main_v53 : Ref sig .tc := ⟨.hbm, 102, rfl⟩
abbrev main_c_5 : Ref sig .tc := ⟨.hbm, 103, rfl⟩
abbrev main_call6_v0 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩

abbrev nD : Nat := 1
abbrev τ : Topo := Topo.v7x

variable {F : FTy → Type} [FloatOps F]
-- ==== Proof.FoxSpec.lean ====
module

public import Idealize.ShloMosaic.Lib.Pointwise

/-! Forgetting attention, entry by entry: the score of a key for a query in units of log two, up to the query's own decay;
    the weighted mean of the values; each head's mean square divided out. -/

@[expose] public section

noncomputable section

namespace Cert.FoxSpec

open Idealize.ShloMosaic

variable (qv : Fin 16 → Fin 1024 → Fin 4096 → EReal) (kk : Fin 16 → Fin 4096 → Fin 512 → EReal)
  (cg : Fin 16 → Fin 4096 → Fin 128 → EReal) (g : Fin 512 → EReal)

/-- The inner product of a query and a key of one head. -/
def dot (b : Fin 16) (h : Fin 8) (n k : Fin 4096) : EReal :=
  ∑ d : Fin 64, qv b ⟨h.val * 64 + d.val, by omega⟩ n * kk b k ⟨h.val * 64 + d.val, by omega⟩

/-- The decay gathered up to a position. -/
def decay (b : Fin 16) (h : Fin 8) (k : Fin 4096) : EReal :=
  ∑ i : Fin 3, cg b k ⟨h.val * 3 + i.val, by omega⟩

/-- The score of the keys a query sees, minus infinity for those after it. -/
def score (b : Fin 16) (h : Fin 8) (n k : Fin 4096) : EReal :=
  if k.val ≤ n.val then dot qv kk b h n k - decay cg b h k else ⊥

/-- The weights' sum. -/
def mass (b : Fin 16) (h : Fin 8) (n : Fin 4096) : EReal := ∑ k : Fin 4096, Ideal.exp2 (score qv kk cg b h n k)

/-- The values' weighted sum. -/
def gathered (b : Fin 16) (h : Fin 8) (n : Fin 4096) (e : Fin 64) : EReal :=
  ∑ k : Fin 4096, qv b ⟨512 + (h.val * 64 + e.val), by omega⟩ k * Ideal.exp2 (score qv kk cg b h n k)

/-- One head's output. -/
def mean (b : Fin 16) (h : Fin 8) (n : Fin 4096) (e : Fin 64) : EReal :=
  Ideal.div (gathered qv kk cg b h n e) (mass qv kk cg b h n)

/-- Its mean square divided out, times a gain. -/
def unit (o : Fin 64 → EReal) (e : Fin 64) (w : EReal) : EReal :=
  o e * Ideal.rsqrt (Ideal.div (∑ x, o x * o x) (Ideal.ofBits .f32 0x42800000#32) + Ideal.ofBits .f32 0x358637BD#32) * w

/-- The layer's attention. -/
def attn (b : Fin 16) (n : Fin 4096) (h : Fin 8) (e : Fin 64) : EReal :=
  unit (mean qv kk cg b h n) e (g ⟨h.val * 64 + e.val, by omega⟩)

/-- What the preconditions say of the arrays the scores are made of. -/
structure Finite : Prop where
  q : ∀ b (f : Fin 1024) n, f.val < 512 → ∃ r : ℝ, qv b f n = r
  k : ∀ b n f, ∃ r : ℝ, kk b n f = r
  c : ∀ b n (f : Fin 128), f.val < 24 → ∃ r : ℝ, cg b n f = r

/-- A finite sum of real numbers is one. -/
theorem sum_real {ι : Type} [Fintype ι] (f : ι → EReal) (h : ∀ i, ∃ r : ℝ, f i = r) : ∃ r : ℝ, ∑ i, f i = r := by
  classical
  choose w hw using h
  refine ⟨∑ i, w i, ?_⟩
  simp only [hw]
  induction (Finset.univ : Finset ι) using Finset.induction_on with
  | empty => simp
  | insert a s ha ih => rw [Finset.sum_insert ha, Finset.sum_insert ha, ih, EReal.coe_add]

variable {qv kk cg}

theorem dot_real (F : Finite qv kk cg) (b : Fin 16) (h : Fin 8) (n k : Fin 4096) : ∃ r : ℝ, dot qv kk b h n k = r :=
  sum_real _ fun d => by
    obtain ⟨r, hr⟩ := F.q b ⟨h.val * 64 + d.val, by omega⟩ n (by simp; omega)
    obtain ⟨r', hr'⟩ := F.k b k ⟨h.val * 64 + d.val, by omega⟩
    exact ⟨r * r', by rw [hr, hr', EReal.coe_mul]⟩

theorem decay_real (F : Finite qv kk cg) (b : Fin 16) (h : Fin 8) (k : Fin 4096) : ∃ r : ℝ, decay cg b h k = r :=
  sum_real _ fun i => F.c b k _ (by simp; omega)

theorem score_real (F : Finite qv kk cg) (b : Fin 16) (h : Fin 8) (n k : Fin 4096) (hk : k.val ≤ n.val) :
    ∃ r : ℝ, score qv kk cg b h n k = r := by
  obtain ⟨r, hr⟩ := dot_real F b h n k
  obtain ⟨r', hr'⟩ := decay_real F b h k
  exact ⟨r - r', by rw [score, if_pos hk, hr, hr', EReal.coe_sub]⟩

theorem score_ne_top (F : Finite qv kk cg) (b : Fin 16) (h : Fin 8) (n k : Fin 4096) : score qv kk cg b h n k ≠ ⊤ := by
  by_cases hk : k.val ≤ n.val
  · obtain ⟨r, hr⟩ := score_real F b h n k hk
    rw [hr]; exact EReal.coe_ne_top r
  · rw [score, if_neg hk]; exact bot_ne_top

theorem score_ne_bot (F : Finite qv kk cg) (b : Fin 16) (h : Fin 8) (n k : Fin 4096) (hk : k.val ≤ n.val) :
    score qv kk cg b h n k ≠ ⊥ := by
  obtain ⟨r, hr⟩ := score_real F b h n k hk
  rw [hr]; exact EReal.coe_ne_bot r

end Cert.FoxSpec

end
-- ==== Proof.FoxPre.lean ====
module

public import proofs.«01_k».proof.Pre_finite_fox
public import proofs.«01_k».proof.Proof.FoxSpec
public import Idealize.ShloMosaic.Lib.ReduceAll
public import Idealize.ShloMosaic.Lib.Claim

/-! What the precondition says: queries, keys and decay columns are real numbers. -/

@[expose] public section

set_option maxRecDepth 16384

noncomputable section

namespace Cert.FoxPre

open Cert.Pre_finite_fox Idealize.ShloMosaic

/-- A number whose magnitude is below infinity is real. -/
theorem real_of_lt (x : EReal) (h : max x (-x) < ⊤) : ∃ r : ℝ, x = r := by
  induction x with
  | bot => simp at h
  | top => simp at h
  | coe r => exact ⟨r, rfl⟩

theorem inf_word : Ideal.ofBits .f32 (0x7F800000#32) = (⊤ : EReal) := by
  simp [Ideal.ofBits, Ideal.ieee]

theorem real_of_cmp {φ : FTy} (x : Ideal φ)
    (h : BitVec.ofBool (decide ((FloatOps.absf x : EReal) < Ideal.ofBits .f32 0x7F800000#32)) = 1#1) : ∃ r : ℝ, (x : EReal) = r := by
  rw [inf_word] at h
  refine real_of_lt x ?_
  by_contra hn
  rw [decide_eq_false (p := (FloatOps.absf x : EReal) < ⊤) (fun h' => hn h')] at h
  exact absurd h (by decide)

variable [Facts] (a0 : FVec Ideal S16x1024x4096 .bf16) (a1 : FVec Ideal S16x4096x512 .bf16) (a2 : FVec Ideal S16x4096x128 .bf16)
  (a3 : FVec Ideal S512 .f32)

instance : Subsingleton S_.Idx := ⟨fun i j => funext fun a => a.elim0⟩

theorem finite (h : fn (F := Ideal) a0 a1 a2 a3 = fun _ => 1#1) :
    FoxSpec.Finite (fun b f n => a0 (ix3 b f n)) (fun b n f => a1 (ix3 b n f)) (fun b n f => a2 (ix3 b n f)) := by
  have h1 := congrFun h ix0
  unfold fn fn_part1 at h1
  dsimp only at h1
  obtain ⟨h2, hc⟩ := IntOp.andi_eq_one.1 h1
  obtain ⟨hq, hk⟩ := IntOp.andi_eq_one.1 h2
  have hq' := Host.reduce_andi_all _ _ _ _ ix0 hq
  have hk' := Host.reduce_andi_all _ _ _ _ ix0 hk
  have hc' := Host.reduce_andi_all _ _ _ _ ix0 hc
  refine ⟨fun b f n hf => ?_, fun b n f => ?_, fun b n f hf => ?_⟩
  · have := hq' (ix3 b ⟨f.val, hf⟩ n)
    pointwise at this
    exact real_of_cmp _ this
  · have := hk' (ix3 b n f)
    pointwise at this
    exact real_of_cmp _ this
  · have := hc' (ix3 b n ⟨f.val, hf⟩)
    pointwise at this
    exact real_of_cmp _ this

end Cert.FoxPre

end
-- ==== Proof.FoxOpen.lean ====
module

public import proofs.«01_k».proof.Proof.Gen.FoxIdeal.Value
public import Idealize.ShloMosaic.Lib.Pointwise
public import Idealize.ShloMosaic.Lib.Pipeline.ValueKit
public import Idealize.ShloMosaic.Lib.Claim

/-! The attention kernel's block in terms of its payloads: one trip of its loop over the key blocks, and the masked block
    that ends it. -/

@[expose] public section

set_option maxRecDepth 16384

noncomputable section

namespace Cert.FoxIdeal.Open

open Cert.FoxIdeal Cert.FoxIdeal.Gen Idealize.ShloMosaic Idealize.ShloMosaic.TcCoe Idealize.SL.Sem

variable {F : FTy → Type} [FloatOps F] [Named F]

/-- What the loop carries: the two heads' running maxima, sums and weighted values. -/
abbrev St (F : FTy → Type) : Type :=
  FVec F S1x256 .f32 × FVec F S1x256 .f32 × FVec F S64x256 .f32 × FVec F S1x256 .f32 × FVec F S1x256 .f32 × FVec F S64x256 .f32

/-- What it starts from. -/
def start : St F :=
  (k0_pay33 (F := F), k0_pay34 (F := F), k0_pay35 (F := F), k0_pay36 (F := F), k0_pay37 (F := F), k0_pay38 (F := F))

/-- One trip: a whole key block `kb` with its decay columns `cb`, and the two heads' values `va` and `vb`. -/
def step (q0 q1 : FVec F S256x256 .bf16) (kb cb : Vec F S1x256x128 .bf16) (va vb : Vec F S1x64x256 .bf16) (a : St F) : St F :=
  (k0_pay4 q0 a.1 kb cb, k0_pay7 q0 a.1 a.2.1 kb cb, k0_pay8 q0 a.1 a.2.2.1 kb cb va,
    k0_pay10 q1 a.2.2.2.1 kb cb, k0_pay13 q1 a.2.2.2.1 a.2.2.2.2.1 kb cb,
    k0_pay39 a.2.2.2.2.2 (k0_pay11 q1 a.2.2.2.1 kb cb) (k0_pay12 q1 a.2.2.2.1 kb cb) vb)

/-- The masked block and the normalisation. -/
def last (q0 q1 : FVec F S256x256 .bf16) (kb cb : Vec F S1x256x128 .bf16) (va vb : Vec F S1x64x256 .bf16)
    (g : Vec F S128x256 .f32) (a : St F) : FVec F S1x256x128 .bf16 :=
  k0_pay1 a.2.2.2.2.2 (k0_pay47 q0 k0_pay32 a.1 a.2.1 (k0_pay41 kb) cb) (k0_pay48 q0 k0_pay32 a.1 a.2.2.1 (k0_pay41 kb) cb va)
    (k0_pay52 q1 k0_pay32 a.2.2.2.1 (k0_pay41 kb) cb) (k0_pay53 q1 k0_pay32 a.2.2.2.1 a.2.2.2.2.1 (k0_pay41 kb) cb)
    (k0_pay54 vb) (k0_pay55 q1 k0_pay32 a.2.2.2.1 (k0_pay41 kb) cb) g

/-- The second head's query operand. -/
def qop1 (i : grid0.Coords) (v0 : Vec F S1x128x256 .bf16) : FVec F S256x256 .bf16 :=
  k0_pay31 (k0_pay26 v0) (iota .tc S128x256 32 [0] iota_S128x256_d0_w32)
    (Scalar.addi (Scalar.muli 2#32 (BitVec.ofNat 32 (i 1).val)) 1#32) k0_pay28 k0_pay29 (k0_pay30 (F := F))

/-- A trip of the loop is `step` on the blocks it reads. -/
theorem trip (𝒱 : Variants) (c : Dev nD) (bd : Option 𝒱.V) (i : grid0.Coords) (arg3 : Memref sig .tc .vmem S1x128x256 .bf16) (harg3 : arg3.IsWhole) (arg4 : Memref sig .tc .vmem S1x128x4096 .bf16) (harg4 : arg4.IsWhole) (arg5 : Memref sig .tc .vmem S1x4096x128 .bf16) (harg5 : arg5.IsWhole) (arg6 : Memref sig .tc .vmem S1x4096x128 .bf16) (harg6 : arg6.IsWhole) (arg7 : Memref sig .tc .vmem S128x256 .f32) (harg7 : arg7.IsWhole) (arg8 : Memref sig .tc .vmem S1x256x128 .bf16) (harg8 : arg8.IsWhole) (arg2 : BitVec 32) (v1 : FVec F S128x256 .bf16) (v2 : IVec S128x256 32) (v28 : FVec F S256x256 .bf16) (v30 : BitVec 32) (v32 : IVec S128x256 1) (v34 : IVec S128x256 1) (v36 : FVec F S128x256 .bf16) (X_arg4 : BufTy.Contents (Elt F) arg4.view.ty) (X_arg5 : BufTy.Contents (Elt F) arg5.view.ty) (X_arg6 : BufTy.Contents (Elt F) arg6.view.ty) (k : Fin (k0_t1_loop i).trips) (acc : St F) :
    tripR_k0_t1 (F := F) 𝒱 c bd i arg3 harg3 arg4 harg4 arg5 harg5 arg6 harg6 arg7 harg7 arg8 harg8 arg2 v1 v2 v28 v30 v32 v34 v36 X_arg4 X_arg5 X_arg6 k acc
      = step v28 (k0_pay31 v1 v2 v30 v32 v34 v36) (arg5.view.readAt (Elt F) (Rect.unit (s := S1x4096x128) (k0_off1 i k) S1x256x128.size (k0_off1_inb i k)).toLoadRect X_arg5)
        (arg6.view.readAt (Elt F) (Rect.unit (s := S1x4096x128) (k0_off1 i k) S1x256x128.size (k0_off1_inb i k)).toLoadRect X_arg6)
        (arg4.view.readAt (Elt F) (Rect.unit (s := S1x128x4096) (k0_off2 i k) S1x64x256.size (k0_off2_inb i k)).toLoadRect X_arg4)
        (arg4.view.readAt (Elt F) (Rect.unit (s := S1x128x4096) (k0_off3 i k) S1x64x256.size (k0_off3_inb i k)).toLoadRect X_arg4) acc := by
  unfold tripR_k0_t1 trip_k0_t1
  rfl

variable (m : (ℓ : Loc nD τ sig) → Buf (Elt F) ℓ) (c : Dev nD)

/-- The first head's query operand at a grid point. -/
def q0 (t : Fin cfg0.N) : FVec F S256x256 .bf16 :=
  k0_pay27 (grid0.coords t) ((ms0_0 t).view.readAt (Elt F) (Rect.unit (s := S1x128x256) ![0, 0, 0] S1x128x256.size inb_S1x128x256_S1x128x256_0_0_0).toLoadRect ((hs0_0 t).unread (iblk m c 0 t)))

/-- The second head's query operand at a grid point. -/
def q1 (t : Fin cfg0.N) : FVec F S256x256 .bf16 :=
  qop1 (grid0.coords t) ((ms0_0 t).view.readAt (Elt F) (Rect.unit (s := S1x128x256) ![0, 0, 0] S1x128x256.size inb_S1x128x256_S1x128x256_0_0_0).toLoadRect ((hs0_0 t).unread (iblk m c 0 t)))

/-- What the loop carries before trip `k`. -/
def carried (t : Fin cfg0.N) (k : ℕ) : St F :=
  st_k0_t1 (F := F) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (BitVec.ofNat 32 ((grid0.coords t) 2).val)
    (k0_pay26 ((ms0_0 t).view.readAt (Elt F) (Rect.unit (s := S1x128x256) ![0, 0, 0] S1x128x256.size inb_S1x128x256_S1x128x256_0_0_0).toLoadRect ((hs0_0 t).unread (iblk m c 0 t))))
    (iota .tc S128x256 32 [0] iota_S128x256_d0_w32) (q0 m c t)
    (Scalar.addi (Scalar.muli 2#32 (BitVec.ofNat 32 ((grid0.coords t) 1).val)) 1#32) k0_pay28 k0_pay29 (k0_pay30 (F := F))
    ((hs0_1 t).unread (iblk m c 1 t)) ((hs0_2 t).unread (iblk m c 2 t)) ((hs0_3 t).unread (iblk m c 3 t)) start k

/-- What the loop's remainder, which runs no trip, hands on. -/
def handed (t : Fin cfg0.N) : St F :=
  st_k0_t2 (F := F) Variants.none c none (grid0.coords t) (ms0_0 t) (hs0_0 t) (ms0_1 t) (hs0_1 t) (ms0_2 t) (hs0_2 t)
    (ms0_3 t) (hs0_3 t) (ms0_4 t) (hs0_4 t) (ms0_5 t) (hs0_5 t) (BitVec.ofNat 32 ((grid0.coords t) 2).val)
    (k0_pay26 ((ms0_0 t).view.readAt (Elt F) (Rect.unit (s := S1x128x256) ![0, 0, 0] S1x128x256.size inb_S1x128x256_S1x128x256_0_0_0).toLoadRect ((hs0_0 t).unread (iblk m c 0 t))))
    (iota .tc S128x256 32 [0] iota_S128x256_d0_w32) (q0 m c t)
    (Scalar.addi (Scalar.muli 2#32 (BitVec.ofNat 32 ((grid0.coords t) 1).val)) 1#32) k0_pay28 k0_pay29 (k0_pay30 (F := F))
    (Scalar.addi 0#32 (Scalar.muli (Scalar.divsi (Scalar.subi (BitVec.ofNat 32 ((grid0.coords t) 2).val) 0#32) 1#32) 1#32))
    ((hs0_1 t).unread (iblk m c 1 t)) ((hs0_2 t).unread (iblk m c 2 t)) ((hs0_3 t).unread (iblk m c 3 t))
    (carried m c t (k0_t1_loop (grid0.coords t)).trips) (k0_t2_loop (grid0.coords t)).trips

theorem trips1 (t : Fin cfg0.N) : (k0_t1_loop (grid0.coords t)).trips = t.val % 16 :=
  (by decide +kernel : ∀ t : Fin grid0.N, (k0_t1_loop (grid0.coords t)).trips = t.val % 16) t

theorem trips2 (t : Fin cfg0.N) : (k0_t2_loop (grid0.coords t)).trips = 0 :=
  (by decide +kernel : ∀ t : Fin grid0.N, (k0_t2_loop (grid0.coords t)).trips = 0) t

theorem handed_eq (t : Fin cfg0.N) : handed m c t = carried m c t (t.val % 16) := by
  unfold handed
  rw [trips2, trips1]
  rfl

theorem carried_zero (t : Fin cfg0.N) : carried m c t 0 = start := rfl

abbrev kvBlk (t : Fin cfg0.N) (o : Fin 3 → ℕ) (h : ∀ a, o a + S1x256x128.size a ≤ S1x4096x128.size a) : Vec F S1x256x128 .bf16 :=
  View.ld (iblk m c 2 t) (Rect.unit (s := S1x4096x128) o S1x256x128.size h)
abbrev cgBlk (t : Fin cfg0.N) (o : Fin 3 → ℕ) (h : ∀ a, o a + S1x256x128.size a ≤ S1x4096x128.size a) : Vec F S1x256x128 .bf16 :=
  View.ld (iblk m c 3 t) (Rect.unit (s := S1x4096x128) o S1x256x128.size h)
abbrev vBlk (t : Fin cfg0.N) (o : Fin 3 → ℕ) (h : ∀ a, o a + S1x64x256.size a ≤ S1x128x4096.size a) : Vec F S1x64x256 .bf16 :=
  View.ld (iblk m c 1 t) (Rect.unit (s := S1x128x4096) o S1x64x256.size h)

theorem carried_succ (t : Fin cfg0.N) (k : Fin (k0_t1_loop (grid0.coords t)).trips) :
    carried m c t (k.val + 1)
      = step (q0 m c t) (q1 m c t) (kvBlk m c t (k0_off1 (grid0.coords t) k) (k0_off1_inb _ k))
          (cgBlk m c t (k0_off1 (grid0.coords t) k) (k0_off1_inb _ k))
          (vBlk m c t (k0_off2 (grid0.coords t) k) (k0_off2_inb _ k))
          (vBlk m c t (k0_off3 (grid0.coords t) k) (k0_off3_inb _ k)) (carried m c t k.val) := by
  unfold carried
  rw [st_k0_t1_succ, trip]
  simp only [View.readAt_eq_ld, (hs0_1 t).read_unread, (hs0_2 t).read_unread, (hs0_3 t).read_unread]
  rfl

theorem out (t : Fin cfg0.N) :
    outsAt0 m c t
      = last (q0 m c t) (q1 m c t) (kvBlk m c t (k0_off7 (grid0.coords t)) (k0_off7_inb _))
          (cgBlk m c t (k0_off7 (grid0.coords t)) (k0_off7_inb _))
          (vBlk m c t (k0_off8 (grid0.coords t)) (k0_off8_inb _))
          (vBlk m c t (k0_off9 (grid0.coords t)) (k0_off9_inb _)) (iblk m c 4 t) (carried m c t (t.val % 16)) := by
  rw [← handed_eq]
  unfold outsAt0 out0_A_5
  rw [View.read_writes_eq_canon _ _ _ (cover0_A_5 c _ _ _ _ _ _ _ _ _ _ _ _ _ _ _ _ _ _)]
  unfold kernelRun0_A
  dsimp only
  refine (View.canon_unit_zero (S := S1x256x128) (by funext a; fin_cases a <;> rfl) _ _).trans ?_
  refine Eq.trans (b := last (q0 m c t) (q1 m c t)
      ((ms0_2 t).view.readAt (Elt F) (Rect.unit (s := S1x4096x128) (k0_off7 (grid0.coords t)) S1x256x128.size (k0_off7_inb _)).toLoadRect ((hs0_2 t).unread (iblk m c 2 t)))
      ((ms0_3 t).view.readAt (Elt F) (Rect.unit (s := S1x4096x128) (k0_off7 (grid0.coords t)) S1x256x128.size (k0_off7_inb _)).toLoadRect ((hs0_3 t).unread (iblk m c 3 t)))
      ((ms0_1 t).view.readAt (Elt F) (Rect.unit (s := S1x128x4096) (k0_off8 (grid0.coords t)) S1x64x256.size (k0_off8_inb _)).toLoadRect ((hs0_1 t).unread (iblk m c 1 t)))
      ((ms0_1 t).view.readAt (Elt F) (Rect.unit (s := S1x128x4096) (k0_off9 (grid0.coords t)) S1x64x256.size (k0_off9_inb _)).toLoadRect ((hs0_1 t).unread (iblk m c 1 t)))
      ((ms0_4 t).view.readAt (Elt F) (Rect.unit (s := S128x256) ![0, 0] S128x256.size inb_S128x256_S128x256_0_0).toLoadRect ((hs0_4 t).unread (iblk m c 4 t)))
      (handed m c t)) rfl ?_
  simp only [View.readAt_eq_ld, (hs0_1 t).read_unread, (hs0_2 t).read_unread, (hs0_3 t).read_unread, (hs0_4 t).read_unread]
  rw [View.ld_unit_zero (S := S128x256) (by funext a; fin_cases a <;> rfl)]
  rfl

theorem q0_eq (t : Fin cfg0.N) : q0 m c t = k0_pay27 (grid0.coords t) (iblk m c 0 t) := by
  unfold q0
  rw [View.readAt_eq_ld, (hs0_0 t).read_unread, View.ld_unit_zero (S := S1x128x256) (by funext a; fin_cases a <;> rfl)]

theorem q1_eq (t : Fin cfg0.N) : q1 m c t = qop1 (grid0.coords t) (iblk m c 0 t) := by
  unfold q1
  rw [View.readAt_eq_ld, (hs0_0 t).read_unread, View.ld_unit_zero (S := S1x128x256) (by funext a; fin_cases a <;> rfl)]

end Cert.FoxIdeal.Open

end
-- ==== Proof.FoxMath.lean ====
module

public import Idealize.ShloMosaic.Lib.Pointwise

/-! Weights that are powers of two of scores, some of which are minus infinity: a softmax of them with its maximum taken
    block by block, and one with its maximum taken at once, are both the quotient of the weighted sum by the sum. -/

@[expose] public section

noncomputable section

namespace Cert.FoxMath

open Idealize.ShloMosaic

/-- A finite factor that is not negative goes into a sum. -/
theorem mul_sum {ι : Type} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (by exact_mod_cast hr) (EReal.coe_ne_top r), ih]

/-- The weight of a score that is not plus infinity is a real number, positive where the score is real. -/
theorem exp2_real (s : EReal) (h : s ≠ ⊤) : ∃ w : ℝ, 0 ≤ w ∧ Ideal.exp2 s = w ∧ (s ≠ ⊥ → 0 < w) := by
  induction s with
  | bot => exact ⟨0, le_refl _, by simp, fun h => absurd rfl h⟩
  | top => exact absurd rfl h
  | coe r => exact ⟨Real.rpow 2 r, (Real.rpow_pos_of_pos two_pos r).le, rfl, fun _ => Real.rpow_pos_of_pos two_pos r⟩

/-- The sum of the weights is a positive real number where one score is real. -/
theorem sum_exp2 {ι : Type} [Fintype ι] (s : ι → EReal) (h : ∀ i, s i ≠ ⊤) (hb : ∃ i, s i ≠ ⊥) :
    ∃ α : ℝ, 0 < α ∧ ∑ i, Ideal.exp2 (s i) = α := by
  classical
  choose w hw he hp using fun i => exp2_real (s i) (h i)
  obtain ⟨i, hi⟩ := hb
  refine ⟨∑ i, w i, Finset.sum_pos' (fun i _ => hw i) ⟨i, Finset.mem_univ i, hp i hi⟩, ?_⟩
  simp only [he]
  induction (Finset.univ : Finset ι) using Finset.induction_on with
  | empty => simp
  | insert a s ha ih => rw [Finset.sum_insert ha, Finset.sum_insert ha, ih, EReal.coe_add]

/-- Taking a real number off a score divides its weight. -/
theorem exp2_sub (s : EReal) (μ : ℝ) : Ideal.exp2 (s - μ) = ((2 ^ (-μ) : ℝ) : EReal) * Ideal.exp2 s := by
  have hp : (0 : ℝ) < 2 ^ (-μ) := Real.rpow_pos_of_pos two_pos _
  induction s with
  | bot => simp
  | top =>
    rw [EReal.top_sub_coe]
    simp only [Ideal.exp2_top]
    rw [EReal.coe_mul_top_of_pos hp]
  | coe r =>
    rw [← EReal.coe_sub]
    simp only [Ideal.exp2_coe]
    rw [← EReal.coe_mul]
    congr 1
    show (2 : ℝ) ^ (r - μ) = 2 ^ (-μ) * 2 ^ r
    rw [← Real.rpow_add two_pos]
    congr 1
    ring

/-- What the running maximum `m`, sum `l` and weighted values `a` hold against the plain sum `A` and weighted values `V`:
    nothing was seen, or a common power of two is divided out. -/
def Inv {n : ℕ} (m l A : EReal) (a V : Fin n → EReal) : Prop :=
  (m = ⊥ ∧ l = 0 ∧ A = 0 ∧ ∀ e, a e = 0 ∧ V e = 0) ∨
    ∃ μ : ℝ, m = μ ∧ l = ((2 ^ (-μ) : ℝ) : EReal) * A ∧ ∀ e, a e = ((2 ^ (-μ) : ℝ) : EReal) * V e

/-- The new maximum is a real number. -/
theorem max_real {ι : Type} [Fintype ι] (m : EReal) (hm : m ≠ ⊤) (s : ι → EReal) (h : ∀ i, s i ≠ ⊤) (hb : ∃ i, s i ≠ ⊥) :
    ∃ μ : ℝ, max m (Finset.fold max ⊥ s Finset.univ) = μ := by
  obtain ⟨i, hi⟩ := hb
  have h1 : s i ≤ Finset.fold max ⊥ s Finset.univ :=
    Finset.le_fold_max (s i) |>.mpr (.inr ⟨i, Finset.mem_univ i, le_refl _⟩)
  have h2 : Finset.fold max ⊥ s Finset.univ < ⊤ :=
    Finset.fold_max_lt (⊤ : EReal) |>.mpr ⟨bot_lt_top, fun j _ => lt_top_iff_ne_top.mpr (h j)⟩
  have h3 : max m (Finset.fold max ⊥ s Finset.univ) ≠ ⊥ := fun h =>
    hi (le_bot_iff.mp (h1.trans ((le_max_right _ _).trans h.le)))
  have h4 : max m (Finset.fold max ⊥ s Finset.univ) ≠ ⊤ := (max_lt (lt_top_iff_ne_top.mpr hm) h2).ne
  exact ⟨_, (EReal.coe_toReal h4 h3).symm⟩

/-- One block keeps it. -/
theorem Inv.step {n k : ℕ} {m l A : EReal} {a V : Fin n → EReal} (h : Inv m l A a V) (s : Fin k → EReal)
    (v : Fin n → Fin k → EReal) (hs : ∀ i, s i ≠ ⊤) (hb : ∃ i, s i ≠ ⊥) {M : EReal}
    (hM : M = max m (Finset.fold max ⊥ s Finset.univ)) :
    Inv M (Ideal.exp2 (m - M) * l + ∑ x, Ideal.exp2 (s x - M)) (A + ∑ x, Ideal.exp2 (s x))
      (fun e => Ideal.exp2 (m - M) * a e + ∑ x, v e x * Ideal.exp2 (s x - M))
      (fun e => V e + ∑ x, v e x * Ideal.exp2 (s x)) := by
  have hm : m ≠ ⊤ := by
    rcases h with ⟨h, -⟩ | ⟨μ, h, -⟩ <;> rw [h]
    · exact bot_ne_top
    · exact EReal.coe_ne_top μ
  obtain ⟨μ, hμ⟩ := max_real m hm s hs hb
  rw [← hM] at hμ
  have hp : (0 : ℝ) ≤ 2 ^ (-μ) := (Real.rpow_pos_of_pos two_pos _).le
  have hpt : (0 : EReal) ≤ ((2 ^ (-μ) : ℝ) : EReal) := by exact_mod_cast hp
  refine .inr ⟨μ, hμ, ?_, fun e => ?_⟩
  · rw [hμ, EReal.left_distrib_of_nonneg_of_ne_top hpt (EReal.coe_ne_top _), mul_sum _ hp]
    refine congrArg₂ (· + ·) ?_ (Finset.sum_congr rfl fun x _ => exp2_sub _ _)
    rcases h with ⟨-, hl, hA, -⟩ | ⟨μ', hm', hl, -⟩
    · rw [hl, hA, mul_zero, mul_zero]
    · rw [hl, exp2_sub, hm', mul_assoc, ← mul_assoc (Ideal.exp2 _)]
      simp only [Ideal.exp2_coe]
      rw [← EReal.coe_mul]
      have : Real.rpow 2 μ' * 2 ^ (-μ') = (1 : ℝ) := by
        show (2 : ℝ) ^ μ' * 2 ^ (-μ') = 1
        rw [← Real.rpow_add two_pos, add_neg_cancel, Real.rpow_zero]
      rw [this, EReal.coe_one, one_mul]
  · dsimp only
    rw [hμ, EReal.left_distrib_of_nonneg_of_ne_top hpt (EReal.coe_ne_top _), mul_sum _ hp]
    refine congrArg₂ (· + ·) ?_ (Finset.sum_congr rfl fun x _ => ?_)
    · rcases h with ⟨-, -, -, h0⟩ | ⟨μ', hm', -, ha⟩
      · rw [(h0 e).1, (h0 e).2, mul_zero, mul_zero]
      · rw [ha, exp2_sub, hm', mul_assoc, ← mul_assoc (Ideal.exp2 _)]
        simp only [Ideal.exp2_coe]
        rw [← EReal.coe_mul]
        have : Real.rpow 2 μ' * 2 ^ (-μ') = (1 : ℝ) := by
          show (2 : ℝ) ^ μ' * 2 ^ (-μ') = 1
          rw [← Real.rpow_add two_pos, add_neg_cancel, Real.rpow_zero]
        rw [this, EReal.coe_one, one_mul]
    · rw [exp2_sub, mul_left_comm]

/-- At the end the quotient no longer holds the common power. -/
theorem Inv.div {n : ℕ} {m l A : EReal} {a V : Fin n → EReal} (h : Inv m l A a V) (α : ℝ) (hα : 0 < α) (hA : A = α) (e : Fin n) :
    Ideal.div (a e) l = Ideal.div (V e) A := by
  rcases h with ⟨-, -, h0, -⟩ | ⟨μ, -, hl, ha⟩
  · rw [h0] at hA
    exact absurd (EReal.coe_eq_zero.mp hA.symm) hα.ne'
  · have hp : (0 : ℝ) < 2 ^ (-μ) := Real.rpow_pos_of_pos two_pos _
    rw [hl, ha, hA, ← EReal.coe_mul, Ideal.div_coe (mul_pos hp hα).ne', Ideal.div_coe hα.ne', mul_right_comm, ← EReal.coe_mul,
      mul_comm, ]
    congr 2
    field_simp

/-- The softmax with its maximum taken at once, in units of the natural exponential and shifted by `c`. -/
theorem softmax {k : ℕ} (s x v : Fin k → EReal) (c : ℝ) (hs : ∀ i, s i ≠ ⊤) (hb : ∃ i, s i ≠ ⊥)
    (hx : ∀ i, x i = (s i + c) * ((Real.log 2 : ℝ) : EReal)) {M : EReal} (hM : M = max ⊥ (Finset.fold max ⊥ x Finset.univ)) :
    ∑ i, Ideal.div (Ideal.exp (x i - M)) (∑ j, Ideal.exp (x j - M)) * v i
      = Ideal.div (∑ i, v i * Ideal.exp2 (s i)) (∑ i, Ideal.exp2 (s i)) := by
  have hlog : (0 : ℝ) < Real.log 2 := Real.log_pos one_lt_two
  have hxr : ∀ i, (s i = ⊥ ∧ x i = ⊥) ∨ ∃ r : ℝ, s i = r ∧ x i = ((r + c) * Real.log 2 : ℝ) := fun i => by
    rw [hx i]
    generalize hsi : s i = si
    have := hs i
    rw [hsi] at this
    induction si with
    | bot => exact .inl ⟨rfl, by rw [EReal.bot_add, EReal.bot_mul_coe_of_pos hlog]⟩
    | top => exact absurd rfl this
    | coe r => exact .inr ⟨r, rfl, by rw [← EReal.coe_add, ← EReal.coe_mul]⟩
  obtain ⟨i₀, hi₀⟩ := hb
  obtain ⟨μ, hμ⟩ := max_real ⊥ bot_ne_top x (fun i => by
    rcases hxr i with ⟨-, h⟩ | ⟨r, -, h⟩ <;> rw [h]
    · exact bot_ne_top
    · exact EReal.coe_ne_top _) ⟨i₀, by
    rcases hxr i₀ with ⟨h, -⟩ | ⟨r, -, h⟩
    · exact absurd h hi₀
    · rw [h]; exact EReal.coe_ne_bot _⟩
  rw [← hM] at hμ
  obtain ⟨α, hα, hA⟩ := sum_exp2 s hs ⟨i₀, hi₀⟩
  have hκ : (0 : ℝ) < Real.exp (c * Real.log 2 - μ) := Real.exp_pos _
  have he : ∀ i, Ideal.exp (x i - M) = ((Real.exp (c * Real.log 2 - μ) : ℝ) : EReal) * Ideal.exp2 (s i) := fun i => by
    rw [hμ]
    rcases hxr i with ⟨h1, h2⟩ | ⟨r, h1, h2⟩
    · rw [h1, h2]; simp
    · rw [h1, h2, ← EReal.coe_sub]
      simp only [Ideal.exp_coe, Ideal.exp2_coe]
      rw [← EReal.coe_mul]
      congr 1
      show _ = _ * (2 : ℝ) ^ r
      rw [Real.rpow_def_of_pos two_pos, ← Real.exp_add]
      congr 1
      ring
  simp only [he]
  rw [← mul_sum _ hκ.le, hA, ← EReal.coe_mul, Ideal.div_coe hα.ne', mul_comm (∑ i, _),
    mul_sum _ (one_div_nonneg.mpr hα.le)]
  refine Finset.sum_congr rfl fun i _ => ?_
  rw [Ideal.div_coe (mul_pos hκ hα).ne', mul_right_comm _ (Ideal.exp2 (s i)), ← EReal.coe_mul]
  have : Real.exp (c * Real.log 2 - μ) * (1 / (Real.exp (c * Real.log 2 - μ) * α)) = 1 / α := by
    field_simp
  rw [this, mul_assoc, mul_comm (Ideal.exp2 _)]

/-- A sum over the blocks before block `k + 1` is the one over those before block `k` and block `k`'s. -/
theorem sum_before_succ {N : ℕ} (T : Fin N → EReal) (k : ℕ) (hk : k < N) :
    (∑ b : Fin N, if b.val < k + 1 then T b else 0) = (∑ b : Fin N, if b.val < k then T b else 0) + T ⟨k, hk⟩ := by
  have : ∀ b : Fin N, (if b.val < k + 1 then T b else 0)
      = (if b.val < k then T b else 0) + (if b = ⟨k, hk⟩ then T b else 0) := fun b => by
    by_cases h1 : b.val < k
    · rw [if_pos (by omega), if_pos h1, if_neg (fun h => by rw [h] at h1; exact lt_irrefl _ h1), add_zero]
    · by_cases h2 : b.val = k
      · rw [if_pos (by omega), if_neg h1, if_pos (Fin.ext h2), zero_add]
      · rw [if_neg (by omega), if_neg h1, if_neg (fun h => h2 (congrArg Fin.val h)), add_zero]
  simp only [this]
  rw [Finset.sum_add_distrib, Finset.sum_ite_eq' Finset.univ (⟨k, hk⟩ : Fin N) T]
  simp

/-- A sum over the blocks before block `k` where the later ones are zero. -/
theorem sum_before_all {N : ℕ} (T : Fin N → EReal) (k : ℕ) (h : ∀ b : Fin N, ¬ b.val < k → T b = 0) :
    (∑ b : Fin N, if b.val < k then T b else 0) = ∑ b, T b :=
  Finset.sum_congr rfl fun b _ => by
    by_cases hb : b.val < k
    · rw [if_pos hb]
    · rw [if_neg hb, h b hb]

end Cert.FoxMath

end
-- ==== Proof.FoxWords.lean ====
module

public import Idealize.ShloMosaic.Lib.Pointwise

/-! The constants' values and the comparisons of positions. -/

@[expose] public section

noncomputable section

namespace Cert.FoxWords

open Idealize.ShloMosaic

theorem two : Ideal.ofBits .f32 (0x40000000#32) = ((2 : ℝ) : EReal) := by
  simp [Ideal.ofBits, Ideal.ieee, -EReal.coe_mul]; norm_num

theorem neg_one : Ideal.ofBits .f32 (0xBF800000#32) = ((-1 : ℝ) : EReal) := by
  simp [Ideal.ofBits, Ideal.ieee, -EReal.coe_mul]; try norm_num

theorem bot : Ideal.ofBits .f32 (0xFF800000#32) = (⊥ : EReal) := by
  simp [Ideal.ofBits, Ideal.ieee]

theorem toInt_small (k : ℕ) (hk : k < 2147483648) : (BitVec.ofNat 32 k).toInt = (k : ℤ) := by
  rw [BitVec.toInt_eq_toNat_cond, BitVec.toNat_ofNat]; omega

theorem select_sle {α : Type} (k n : ℕ) (hk : k < 2147483648) (hn : n < 2147483648) (x y : α) :
    Scalar.select (IntOp.cmpi .sle (BitVec.ofNat 32 k) (BitVec.ofNat 32 n)) x y = if k ≤ n then x else y := by
  by_cases h : k ≤ n
  · rw [if_pos h]
    simp [Scalar.select, IntOp.cmpi, BitVec.sle, toInt_small k hk, toInt_small n hn, h]
  · rw [if_neg h]
    simp [Scalar.select, IntOp.cmpi, BitVec.sle, toInt_small k hk, toInt_small n hn, h]

theorem select_slt {α : Type} (k n : ℕ) (hk : k < 2147483648) (hn : n < 2147483648) (x y : α) :
    Scalar.select (IntOp.cmpi .slt (BitVec.ofNat 32 k) (BitVec.ofNat 32 n)) x y = if k < n then x else y := by
  by_cases h : k < n
  · rw [if_pos h]
    simp [Scalar.select, IntOp.cmpi, BitVec.slt, toInt_small k hk, toInt_small n hn, h]
  · rw [if_neg h]
    simp [Scalar.select, IntOp.cmpi, BitVec.slt, toInt_small k hk, toInt_small n hn, h]

theorem select_sge {α : Type} (k n : ℕ) (hk : k < 2147483648) (hn : n < 2147483648) (x y : α) :
    Scalar.select (IntOp.cmpi .sge (BitVec.ofNat 32 k) (BitVec.ofNat 32 n)) x y = if n ≤ k then x else y := by
  by_cases h : n ≤ k
  · rw [if_pos h]
    simp [Scalar.select, IntOp.cmpi, BitVec.sle, toInt_small k hk, toInt_small n hn, h]
  · rw [if_neg h]
    simp [Scalar.select, IntOp.cmpi, BitVec.sle, toInt_small k hk, toInt_small n hn, h]

end Cert.FoxWords

end
-- ==== Proof.FoxRows.lean ====
module

public import proofs.«01_k».proof.Proof.FoxOpen
public import proofs.«01_k».proof.Proof.FoxMath
public import proofs.«01_k».proof.Proof.FoxWords
public import proofs.«01_k».proof.Proof.FoxSpec

/-! One key block's part in a query's attention: what a trip of the loop, and the masked block after it, do to the carried
    maximum, sum and weighted values of one query in each of the two heads. -/

@[expose] public section

set_option maxRecDepth 16384

noncomputable section

namespace Cert.FoxIdeal.Rows

open Cert.FoxIdeal Cert.FoxIdeal.Gen Cert.FoxIdeal.Open Idealize.ShloMosaic Idealize.ShloMosaic.TcCoe Idealize.SL.Sem

/-- The mask's name stands for minus infinity. -/
theorem mask_bot : (Named.named (F := Ideal) Cert.FoxIdeal.κ "mask" (φ := .f32) 0xF149F2CA#32 : EReal) = ⊥ :=
  IdealRules.named_const.ideal_named_scalar _ _ _ _ rfl

variable (qo : FVec Ideal S256x256 .bf16) (kb cb : Vec Ideal S1x256x128 .bf16) (va : Vec Ideal S1x64x256 .bf16) (q : Fin 256)

/-- A query's inner products with a block's keys. -/
def raw (j : Fin 256) : EReal :=
  ∑ x : Fin 128, kb (ix3 0 j x) * qo (ix2 ⟨x.val, by omega⟩ q) + ∑ x : Fin 128, cb (ix3 0 j x) * qo (ix2 ⟨128 + x.val, by omega⟩ q)

theorem pay3_row (j : Fin 256) : k0_pay3 (F := Ideal) qo kb cb (ix2 j q) = raw qo kb cb q j := by
  pointwise [k0_pay3, k0_pay2, raw]

theorem pay9_row (j : Fin 256) : k0_pay9 (F := Ideal) qo kb cb (ix2 j q) = raw qo kb cb q j := by
  pointwise [k0_pay9, k0_pay2, raw]

theorem pay43_row (j : Fin 256) : k0_pay43 (F := Ideal) qo k0_pay32 (k0_pay41 kb) cb (ix2 j q)
    = if j.val ≤ q.val then raw qo kb cb q j else ⊥ := by
  pointwise [k0_pay43, k0_pay32, k0_pay42, k0_pay41, raw]
  rw [FoxWords.select_sle _ _ (by omega) (by omega), mask_bot]

theorem pay49_row (j : Fin 256) : k0_pay49 (F := Ideal) qo k0_pay32 (k0_pay41 kb) cb (ix2 j q)
    = if j.val ≤ q.val then raw qo kb cb q j else ⊥ := by
  pointwise [k0_pay49, k0_pay32, k0_pay42, k0_pay41, raw]
  rw [FoxWords.select_sle _ _ (by omega) (by omega), mask_bot]

variable (m0 l0 : FVec Ideal S1x256 .f32) (a0 : FVec Ideal S64x256 .f32) (S : Fin 256 → EReal) {A M : EReal} {V : Fin 64 → EReal}

theorem pay4_row (h : ∀ j, k0_pay3 (F := Ideal) qo kb cb (ix2 j q) = S j) :
    k0_pay4 (F := Ideal) qo m0 kb cb (ix2 0 q) = max (m0 (ix2 0 q)) (Finset.fold max ⊥ S Finset.univ) := by
  pointwise [k0_pay4, h]
  rw [FoxWords.bot]

theorem pay7_row (h : ∀ j, k0_pay3 (F := Ideal) qo kb cb (ix2 j q) = S j)
    (hM : k0_pay4 (F := Ideal) qo m0 kb cb (ix2 0 q) = M) :
    k0_pay7 (F := Ideal) qo m0 l0 kb cb (ix2 0 q)
      = Ideal.exp2 (m0 (ix2 0 q) - M) * l0 (ix2 0 q) + ∑ x, Ideal.exp2 (S x - M) := by
  pointwise [k0_pay7, k0_pay5, k0_pay6, h, hM]
  rfl

theorem pay8_row (h : ∀ j, k0_pay3 (F := Ideal) qo kb cb (ix2 j q) = S j)
    (hM : k0_pay4 (F := Ideal) qo m0 kb cb (ix2 0 q) = M) (e : Fin 64) :
    k0_pay8 (F := Ideal) qo m0 a0 kb cb va (ix2 e q)
      = Ideal.exp2 (m0 (ix2 0 q) - M) * a0 (ix2 e q) + ∑ x, va (ix3 0 e x) * Ideal.exp2 (S x - M) := by
  pointwise [k0_pay8, k0_pay5, k0_pay6, h, hM]
  rfl

theorem pay10_row (h : ∀ j, k0_pay9 (F := Ideal) qo kb cb (ix2 j q) = S j) :
    k0_pay10 (F := Ideal) qo m0 kb cb (ix2 0 q) = max (m0 (ix2 0 q)) (Finset.fold max ⊥ S Finset.univ) := by
  pointwise [k0_pay10, h]
  rw [FoxWords.bot]

theorem pay13_row (h : ∀ j, k0_pay9 (F := Ideal) qo kb cb (ix2 j q) = S j)
    (hM : k0_pay10 (F := Ideal) qo m0 kb cb (ix2 0 q) = M) :
    k0_pay13 (F := Ideal) qo m0 l0 kb cb (ix2 0 q)
      = Ideal.exp2 (m0 (ix2 0 q) - M) * l0 (ix2 0 q) + ∑ x, Ideal.exp2 (S x - M) := by
  pointwise [k0_pay13, k0_pay11, k0_pay12, h, hM]
  rfl

theorem pay39_row (h : ∀ j, k0_pay9 (F := Ideal) qo kb cb (ix2 j q) = S j)
    (hM : k0_pay10 (F := Ideal) qo m0 kb cb (ix2 0 q) = M) (e : Fin 64) :
    k0_pay39 (F := Ideal) a0 (k0_pay11 qo m0 kb cb) (k0_pay12 qo m0 kb cb) va (ix2 e q)
      = Ideal.exp2 (m0 (ix2 0 q) - M) * a0 (ix2 e q) + ∑ x, va (ix3 0 e x) * Ideal.exp2 (S x - M) := by
  pointwise [k0_pay39, k0_pay11, k0_pay12, h, hM]
  rfl

theorem pay44_row (h : ∀ j, k0_pay43 (F := Ideal) qo k0_pay32 (k0_pay41 kb) cb (ix2 j q) = S j) :
    k0_pay44 (F := Ideal) qo k0_pay32 m0 (k0_pay41 kb) cb (ix2 0 q) = max (m0 (ix2 0 q)) (Finset.fold max ⊥ S Finset.univ) := by
  pointwise [k0_pay44, h]
  rw [FoxWords.bot]

theorem pay47_row (h : ∀ j, k0_pay43 (F := Ideal) qo k0_pay32 (k0_pay41 kb) cb (ix2 j q) = S j)
    (hM : k0_pay44 (F := Ideal) qo k0_pay32 m0 (k0_pay41 kb) cb (ix2 0 q) = M) :
    k0_pay47 (F := Ideal) qo k0_pay32 m0 l0 (k0_pay41 kb) cb (ix2 0 q)
      = Ideal.exp2 (m0 (ix2 0 q) - M) * l0 (ix2 0 q) + ∑ x, Ideal.exp2 (S x - M) := by
  pointwise [k0_pay47, k0_pay45, k0_pay46, h, hM]
  rfl

theorem pay48_row (h : ∀ j, k0_pay43 (F := Ideal) qo k0_pay32 (k0_pay41 kb) cb (ix2 j q) = S j)
    (hM : k0_pay44 (F := Ideal) qo k0_pay32 m0 (k0_pay41 kb) cb (ix2 0 q) = M) (e : Fin 64) :
    k0_pay48 (F := Ideal) qo k0_pay32 m0 a0 (k0_pay41 kb) cb va (ix2 e q)
      = Ideal.exp2 (m0 (ix2 0 q) - M) * a0 (ix2 e q) + ∑ x, va (ix3 0 e x) * Ideal.exp2 (S x - M) := by
  pointwise [k0_pay48, k0_pay45, k0_pay46, h, hM]
  rfl

theorem pay50_row (h : ∀ j, k0_pay49 (F := Ideal) qo k0_pay32 (k0_pay41 kb) cb (ix2 j q) = S j) :
    k0_pay50 (F := Ideal) qo k0_pay32 m0 (k0_pay41 kb) cb (ix2 0 q) = max (m0 (ix2 0 q)) (Finset.fold max ⊥ S Finset.univ) := by
  pointwise [k0_pay50, h]
  rw [FoxWords.bot]

theorem pay53_row (h : ∀ j, k0_pay49 (F := Ideal) qo k0_pay32 (k0_pay41 kb) cb (ix2 j q) = S j)
    (hM : k0_pay50 (F := Ideal) qo k0_pay32 m0 (k0_pay41 kb) cb (ix2 0 q) = M) :
    k0_pay53 (F := Ideal) qo k0_pay32 m0 l0 (k0_pay41 kb) cb (ix2 0 q)
      = Ideal.exp2 (m0 (ix2 0 q) - M) * l0 (ix2 0 q) + ∑ x, Ideal.exp2 (S x - M) := by
  pointwise [k0_pay53, k0_pay51, k0_pay52, h, hM]
  rfl

/-- The second head's weighted values after the masked block. -/
def acc1 (e : Fin 64) : EReal :=
  k0_pay55 (F := Ideal) qo k0_pay32 m0 (k0_pay41 kb) cb (ix2 e q) * a0 (ix2 e q)
    + ∑ x : Fin 256, k0_pay54 (F := Ideal) va (ix2 e x) * k0_pay52 (F := Ideal) qo k0_pay32 m0 (k0_pay41 kb) cb (ix2 x q)

theorem acc1_row (h : ∀ j, k0_pay49 (F := Ideal) qo k0_pay32 (k0_pay41 kb) cb (ix2 j q) = S j)
    (hM : k0_pay50 (F := Ideal) qo k0_pay32 m0 (k0_pay41 kb) cb (ix2 0 q) = M) (e : Fin 64) :
    acc1 qo kb cb va q m0 a0 e
      = Ideal.exp2 (m0 (ix2 0 q) - M) * a0 (ix2 e q) + ∑ x, va (ix3 0 e x) * Ideal.exp2 (S x - M) := by
  pointwise [acc1, k0_pay55, k0_pay54, k0_pay51, k0_pay52, h, hM]
  rfl

/-- The normalised block, in a lane of the first head and in one of the second. -/
theorem pay1_row0 (a1 : FVec Ideal S64x256 .f32) (p1 : FVec Ideal S256x256 .f32) (l1 : FVec Ideal S1x256 .f32)
    (v1 : FVec Ideal S64x256 .bf16) (w1 : FVec Ideal S64x256 .f32) (g : Vec Ideal S128x256 .f32) (e : Fin 64) :
    k0_pay1 (F := Ideal) a1 l0 a0 p1 l1 v1 w1 g (ix3 0 q ⟨e.val, by omega⟩)
      = FoxSpec.unit (fun x => Ideal.div (a0 (ix2 x q)) (l0 (ix2 0 q))) e (g (ix2 ⟨e.val, by omega⟩ q)) := by
  pointwise [k0_pay1, FoxSpec.unit]

theorem pay1_row1 (a1 : FVec Ideal S64x256 .f32) (p1 : FVec Ideal S256x256 .f32) (l1 : FVec Ideal S1x256 .f32)
    (v1 : FVec Ideal S64x256 .bf16) (w1 : FVec Ideal S64x256 .f32) (g : Vec Ideal S128x256 .f32) (e : Fin 64) :
    k0_pay1 (F := Ideal) a1 l0 a0 p1 l1 v1 w1 g (ix3 0 q ⟨64 + e.val, by omega⟩)
      = FoxSpec.unit (fun x => Ideal.div (w1 (ix2 x q) * a1 (ix2 x q) + ∑ y : Fin 256, v1 (ix2 x y) * p1 (ix2 y q)) (l1 (ix2 0 q))) e
          (g (ix2 ⟨64 + e.val, by omega⟩ q)) := by
  pointwise [k0_pay1, FoxSpec.unit]

end Cert.FoxIdeal.Rows

end
-- ==== Proof.FoxBlocks.lean ====
module

public import proofs.«01_k».proof.Proof.FoxOpen
public import proofs.«01_k».proof.Proof.FoxWords

/-! What the attention kernel's staged blocks hold, and where its slices of them start. Grid point `t` is batch entry `t / 64`,
    head pair `t / 16 % 4` and query block `t % 16`. -/

@[expose] public section

set_option maxRecDepth 16384

noncomputable section

namespace Cert.FoxIdeal.Blocks

open Cert.FoxIdeal Cert.FoxIdeal.Gen Cert.FoxIdeal.Open Idealize.ShloMosaic Idealize.ShloMosaic.TcCoe Idealize.SL.Sem

variable (m : (ℓ : Loc nD τ sig) → Buf (Elt Ideal) ℓ) (c : Dev nD) (t : Fin cfg0.N)

theorem idx : ∀ t : Fin cfg0.N, t.val < 1024 ∧ win0_0.index t = ![t.val / 64, t.val / 16 % 4, t.val % 16]
    ∧ win0_1.index t = ![t.val / 64, t.val / 16 % 4 + 4, 0] ∧ win0_2.index t = ![t.val / 64, 0, t.val / 16 % 4]
    ∧ win0_3.index t = ![t.val / 64, 0, 0] ∧ win0_4.index t = ![t.val / 16 % 4, 0]
    ∧ win0_5.index t = ![t.val / 64, t.val % 16, t.val / 16 % 4] :=
  (by decide +kernel : ∀ t : Fin grid0.N, _)

theorem pair_eq : ∀ t : Fin cfg0.N, ((grid0.coords t) 1).val = t.val / 16 % 4 :=
  (by decide +kernel : ∀ t : Fin grid0.N, _)

theorem off1 : ∀ (t : Fin cfg0.N) (k : Fin (k0_t1_loop (grid0.coords t)).trips), k0_off1 (grid0.coords t) k = ![0, 256 * k.val, 0] :=
  (by decide +kernel : ∀ (t : Fin grid0.N) (k : Fin (k0_t1_loop (grid0.coords t)).trips), _)
theorem off2 : ∀ (t : Fin cfg0.N) (k : Fin (k0_t1_loop (grid0.coords t)).trips), k0_off2 (grid0.coords t) k = ![0, 0, 256 * k.val] :=
  (by decide +kernel : ∀ (t : Fin grid0.N) (k : Fin (k0_t1_loop (grid0.coords t)).trips), _)
theorem off3 : ∀ (t : Fin cfg0.N) (k : Fin (k0_t1_loop (grid0.coords t)).trips), k0_off3 (grid0.coords t) k = ![0, 64, 256 * k.val] :=
  (by decide +kernel : ∀ (t : Fin grid0.N) (k : Fin (k0_t1_loop (grid0.coords t)).trips), _)
theorem off7 : ∀ (t : Fin cfg0.N), k0_off7 (grid0.coords t) = ![0, 256 * (t.val % 16), 0] :=
  (by decide +kernel : ∀ (t : Fin grid0.N), _)
theorem off8 : ∀ (t : Fin cfg0.N), k0_off8 (grid0.coords t) = ![0, 0, 256 * (t.val % 16)] :=
  (by decide +kernel : ∀ (t : Fin grid0.N), _)
theorem off9 : ∀ (t : Fin cfg0.N), k0_off9 (grid0.coords t) = ![0, 64, 256 * (t.val % 16)] :=
  (by decide +kernel : ∀ (t : Fin grid0.N), _)

/-- The batch entry, and the two heads. -/
def bat : Fin 16 := ⟨t.val / 64, by have := (idx t).1; omega⟩
def head0 : Fin 8 := ⟨2 * (t.val / 16 % 4), by omega⟩
def head1 : Fin 8 := ⟨2 * (t.val / 16 % 4) + 1, by omega⟩
/-- The position of row `q` of the query block, and of row `j` of key block `k`. -/
def pos (q : Fin 256) : Fin 4096 := ⟨256 * (t.val % 16) + q.val, by omega⟩
def key (k : Fin 16) (j : Fin 256) : Fin 4096 := ⟨256 * k.val + j.val, by omega⟩

/-- The queries' block. -/
theorem blk0 (x : Fin 128) (q : Fin 256) : (show FVec Ideal S1x128x256 .bf16 from iblk m c 0 t) (ix3 0 x q)
    = (show FVec Ideal S16x1024x4096 .bf16 from m ((c : Thread nD τ).loc main_arg0))
        (ix3 (bat t) ⟨128 * (t.val / 16 % 4) + x.val, by omega⟩ (pos t q)) := by
  blk_simp [iblk]
  entry_read
  unfold bat pos
  blk_ext [idx t]

/-- The values' block. -/
theorem blk1 (x : Fin 128) (n : Fin 4096) : (show FVec Ideal S1x128x4096 .bf16 from iblk m c 1 t) (ix3 0 x n)
    = (show FVec Ideal S16x1024x4096 .bf16 from m ((c : Thread nD τ).loc main_arg0))
        (ix3 (bat t) ⟨512 + 128 * (t.val / 16 % 4) + x.val, by omega⟩ n) := by
  blk_simp [iblk]
  entry_read
  unfold bat
  blk_ext [idx t]

/-- The keys' block. -/
theorem blk2 (n : Fin 4096) (x : Fin 128) : (show FVec Ideal S1x4096x128 .bf16 from iblk m c 2 t) (ix3 0 n x)
    = (show FVec Ideal S16x4096x512 .bf16 from m ((c : Thread nD τ).loc main_arg1))
        (ix3 (bat t) n ⟨128 * (t.val / 16 % 4) + x.val, by omega⟩) := by
  blk_simp [iblk]
  entry_read
  unfold bat
  blk_ext [idx t]

/-- The decay columns' block. -/
theorem blk3 (n : Fin 4096) (x : Fin 128) : (show FVec Ideal S1x4096x128 .bf16 from iblk m c 3 t) (ix3 0 n x)
    = (show FVec Ideal S16x4096x128 .bf16 from m ((c : Thread nD τ).loc main_arg2)) (ix3 (bat t) n x) := by
  blk_simp [iblk]
  entry_read
  unfold bat
  blk_ext [idx t]

/-- The gains' block. -/
theorem blk4 (x : Fin 128) (q : Fin 256) : (show FVec Ideal S128x256 .f32 from iblk m c 4 t) (ix2 x q)
    = (show FVec Ideal S512 .f32 from m ((c : Thread nD τ).loc main_arg3)) (ix1 ⟨128 * (t.val / 16 % 4) + x.val, by omega⟩) := by
  blk_simp [iblk]
  entry_read
  pointwise
  blk_ext [idx t]

variable (k : Fin 16)

/-- A slice of the keys, of the decay columns, and of the values, at a place where one starts. -/
theorem kv_at (o : Fin 3 → ℕ) (h : ∀ a, o a + S1x256x128.size a ≤ S1x4096x128.size a) (ho : o = ![0, 256 * k.val, 0]) (j : Fin 256) (x : Fin 128) :
    kvBlk m c t o h (ix3 0 j x) = (show FVec Ideal S16x4096x512 .bf16 from m ((c : Thread nD τ).loc main_arg1))
        (ix3 (bat t) (key k j) ⟨128 * (t.val / 16 % 4) + x.val, by omega⟩) := by
  subst ho
  refine Eq.trans ?_ (blk2 m c t (key k j) x)
  unfold key kvBlk
  pointwise

theorem cg_at (o : Fin 3 → ℕ) (h : ∀ a, o a + S1x256x128.size a ≤ S1x4096x128.size a) (ho : o = ![0, 256 * k.val, 0]) (j : Fin 256) (x : Fin 128) :
    cgBlk m c t o h (ix3 0 j x) = (show FVec Ideal S16x4096x128 .bf16 from m ((c : Thread nD τ).loc main_arg2))
        (ix3 (bat t) (key k j) x) := by
  subst ho
  refine Eq.trans ?_ (blk3 m c t (key k j) x)
  unfold key cgBlk
  pointwise

theorem v_at0 (o : Fin 3 → ℕ) (h : ∀ a, o a + S1x64x256.size a ≤ S1x128x4096.size a) (ho : o = ![0, 0, 256 * k.val]) (e : Fin 64) (j : Fin 256) :
    vBlk m c t o h (ix3 0 e j) = (show FVec Ideal S16x1024x4096 .bf16 from m ((c : Thread nD τ).loc main_arg0))
        (ix3 (bat t) ⟨512 + ((head0 t).val * 64 + e.val), by unfold head0; dsimp only; omega⟩ (key k j)) := by
  subst ho
  refine Eq.trans (b := (show FVec Ideal S1x128x4096 .bf16 from iblk m c 1 t) (ix3 0 ⟨e.val, by omega⟩ (key k j))) ?_ ((blk1 m c t _ (key k j)).trans ?_)
  · unfold key vBlk
    pointwise
  · unfold head0
    pointwise
    blk_ext

theorem v_at1 (o : Fin 3 → ℕ) (h : ∀ a, o a + S1x64x256.size a ≤ S1x128x4096.size a) (ho : o = ![0, 64, 256 * k.val]) (e : Fin 64) (j : Fin 256) :
    vBlk m c t o h (ix3 0 e j) = (show FVec Ideal S16x1024x4096 .bf16 from m ((c : Thread nD τ).loc main_arg0))
        (ix3 (bat t) ⟨512 + ((head1 t).val * 64 + e.val), by unfold head1; dsimp only; omega⟩ (key k j)) := by
  subst ho
  refine Eq.trans (b := (show FVec Ideal S1x128x4096 .bf16 from iblk m c 1 t) (ix3 0 ⟨64 + e.val, by omega⟩ (key k j))) ?_ ((blk1 m c t _ (key k j)).trans ?_)
  · unfold key vBlk
    pointwise
  · unfold head1
    pointwise
    blk_ext

end Cert.FoxIdeal.Blocks

end
-- ==== Proof.FoxQuery.lean ====
module

public import proofs.«01_k».proof.Proof.FoxRows
public import proofs.«01_k».proof.Proof.FoxBlocks

/-! The operand that holds a query block: one head's rows of the queries over a selector of that head's decay columns, so
    that one product with keys and decay columns side by side gives the head's scores. -/

@[expose] public section

set_option maxRecDepth 16384

noncomputable section

namespace Cert.FoxIdeal.Query

open Cert.FoxIdeal Cert.FoxIdeal.Gen Cert.FoxIdeal.Open Idealize.ShloMosaic Idealize.ShloMosaic.TcCoe Idealize.SL.Sem

/-- A sum whose terms vanish outside a run of places. -/
theorem sum_run {N L : ℕ} (o : ℕ) (h : o + L ≤ N) (f : Fin N → EReal) (hz : ∀ x : Fin N, ¬ (o ≤ x.val ∧ x.val < o + L) → f x = 0) :
    ∑ x, f x = ∑ d : Fin L, f ⟨o + d.val, by omega⟩ := by
  refine (Fintype.sum_of_injective (fun d : Fin L => (⟨o + d.val, by omega⟩ : Fin N)) (fun a b e => ?_) _ _ (fun x hx => ?_) fun _ => rfl).symm
  · have := congrArg Fin.val e
    exact Fin.ext (by simpa using this)
  · refine hz x fun hh => hx ⟨⟨x.val - o, by omega⟩, Fin.ext ?_⟩
    show o + (x.val - o) = x.val
    omega

theorem zero_word : (((0#32 : BitVec 32).toInt : ℝ) : EReal) = 0 := by simp

theorem first_row : ∀ p : Fin 4, Scalar.muli 3#32 (Scalar.addi (Scalar.muli 2#32 (BitVec.ofNat 32 p.val)) 0#32) = BitVec.ofNat 32 (6 * p.val)
    ∧ Scalar.addi (Scalar.muli 3#32 (Scalar.addi (Scalar.muli 2#32 (BitVec.ofNat 32 p.val)) 0#32)) 3#32 = BitVec.ofNat 32 (6 * p.val + 3)
    ∧ Scalar.muli 3#32 (Scalar.addi (Scalar.muli 2#32 (BitVec.ofNat 32 p.val)) 1#32) = BitVec.ofNat 32 (6 * p.val + 3)
    ∧ Scalar.addi (Scalar.muli 3#32 (Scalar.addi (Scalar.muli 2#32 (BitVec.ofNat 32 p.val)) 1#32)) 3#32 = BitVec.ofNat 32 (6 * p.val + 6) := by
  decide

/-- Comparing a place with two bounds, one after the other. -/
theorem select_run (x lo hi : ℕ) (hx : x < 2147483648) (hlo : lo < 2147483648) (hhi : hi < 2147483648) (u : EReal) :
    Scalar.select (IntOp.cmpi .sge (BitVec.ofNat 32 x) (BitVec.ofNat 32 lo))
      (Scalar.select (IntOp.cmpi .slt (BitVec.ofNat 32 x) (BitVec.ofNat 32 hi)) u 0) 0 = if lo ≤ x ∧ x < hi then u else 0 := by
  rw [FoxWords.select_sge _ _ hx hlo, FoxWords.select_slt _ _ hx hhi]
  by_cases h1 : lo ≤ x <;> by_cases h2 : x < hi <;> simp [h1, h2]

variable (i : grid0.Coords) (v0 : Vec Ideal S1x128x256 .bf16) (q : Fin 256) (x : Fin 128)

theorem lo0 : k0_pay27 (F := Ideal) i v0 (ix2 ⟨x.val, by omega⟩ q) = if 0 ≤ x.val ∧ x.val < 64 then v0 (ix3 0 x q) else 0 := by
  rw [← select_run x.val 0 64 (by omega) (by omega) (by omega)]
  pointwise [k0_pay27, k0_pay26]
  simp only [zero_word]

theorem hi0 (p : Fin 4) (hp : (i 1).val = p.val) : k0_pay27 (F := Ideal) i v0 (ix2 ⟨128 + x.val, by omega⟩ q)
    = if 6 * p.val ≤ x.val ∧ x.val < 6 * p.val + 3 then ((-1 : ℝ) : EReal) else 0 := by
  rw [← select_run x.val (6 * p.val) (6 * p.val + 3) (by omega) (by omega) (by omega), ← (first_row p).2.1, ← (first_row p).1, ← hp,
    ← FoxWords.neg_one]
  pointwise [k0_pay27, k0_pay26]

theorem lo1 : qop1 (F := Ideal) i v0 (ix2 ⟨x.val, by omega⟩ q) = if 64 ≤ x.val ∧ x.val < 128 then v0 (ix3 0 x q) else 0 := by
  rw [← select_run x.val 64 128 (by omega) (by omega) (by omega)]
  pointwise [qop1, k0_pay31, k0_pay26, k0_pay28, k0_pay29, k0_pay30]
  simp only [zero_word]

theorem hi1 (p : Fin 4) (hp : (i 1).val = p.val) : qop1 (F := Ideal) i v0 (ix2 ⟨128 + x.val, by omega⟩ q)
    = if 6 * p.val + 3 ≤ x.val ∧ x.val < 6 * p.val + 6 then ((-1 : ℝ) : EReal) else 0 := by
  rw [← select_run x.val (6 * p.val + 3) (6 * p.val + 6) (by omega) (by omega) (by omega), ← (first_row p).2.2.2, ← (first_row p).2.2.1, ← hp,
    ← FoxWords.neg_one]
  pointwise [qop1, k0_pay31, k0_pay26, k0_pay28, k0_pay29, k0_pay30]

/-- What the operand's two halves make of a product. -/
theorem raw_run (qo : FVec Ideal S256x256 .bf16) (kb cb : Vec Ideal S1x256x128 .bf16) (j : Fin 256) (o w : ℕ) (ho : o + 64 ≤ 128) (hw : w + 3 ≤ 128)
    (hlo : ∀ x : Fin 128, qo (ix2 ⟨x.val, by omega⟩ q) = if o ≤ x.val ∧ x.val < o + 64 then v0 (ix3 0 x q) else 0)
    (hhi : ∀ x : Fin 128, qo (ix2 ⟨128 + x.val, by omega⟩ q) = if w ≤ x.val ∧ x.val < w + 3 then ((-1 : ℝ) : EReal) else 0) :
    Rows.raw qo kb cb q j = ∑ d : Fin 64, (kb (ix3 0 j ⟨o + d.val, by omega⟩) : EReal) * v0 (ix3 0 ⟨o + d.val, by omega⟩ q)
      + ∑ d : Fin 3, (cb (ix3 0 j ⟨w + d.val, by omega⟩) : EReal) * ((-1 : ℝ) : EReal) := by
  unfold Rows.raw
  refine congrArg₂ (· + ·) ?_ ?_
  · refine (sum_run o ho _ fun x hx => ?_).trans (Finset.sum_congr rfl fun d _ => ?_)
    · rw [hlo, if_neg hx]; exact mul_zero _
    · rw [hlo ⟨o + d.val, by omega⟩, if_pos ⟨by simp, by simp⟩]
  · refine (sum_run w hw _ fun x hx => ?_).trans (Finset.sum_congr rfl fun d _ => ?_)
    · rw [hhi, if_neg hx]; exact mul_zero _
    · rw [hhi ⟨w + d.val, by omega⟩, if_pos ⟨by simp, by simp⟩]

/-- Minus one times real terms. -/
theorem sum_neg {L : ℕ} (f : Fin L → EReal) (h : ∀ d, ∃ r : ℝ, f d = r) : ∑ d, f d * ((-1 : ℝ) : EReal) = - ∑ d, f d := by
  choose w hw using h
  simp only [hw, ← EReal.coe_mul]
  have e : ∀ g : Fin L → ℝ, ∑ d, ((g d : ℝ) : EReal) = ((∑ d, g d : ℝ) : EReal) := fun g => by
    induction (Finset.univ : Finset (Fin L)) using Finset.induction_on with
    | empty => simp
    | insert a s ha ih => rw [Finset.sum_insert ha, Finset.sum_insert ha, ih, EReal.coe_add]
  rw [e, e, ← EReal.coe_neg, ← Finset.sum_neg_distrib]
  exact congrArg _ (Finset.sum_congr rfl fun d _ => by ring)

end Cert.FoxIdeal.Query

end
-- ==== Proof.FoxScan.lean ====
module

public import proofs.«01_k».proof.Proof.FoxQuery

/-! The loop over the key blocks, for one query in each of the two heads of a grid point: before trip `k` it carries the
    maximum, sum and weighted values of the first `k` blocks' scores. -/

@[expose] public section

set_option maxRecDepth 16384

noncomputable section

namespace Cert.FoxIdeal.Scan

open Cert.FoxIdeal Cert.FoxIdeal.Gen Cert.FoxIdeal.Open Cert.FoxIdeal.Blocks Idealize.ShloMosaic Idealize.ShloMosaic.TcCoe Idealize.SL.Sem

variable (m : (ℓ : Loc nD τ sig) → Buf (Elt Ideal) ℓ) (c : Dev nD) (t : Fin cfg0.N)

/-- The arrays, by their places. -/
abbrev qv : Fin 16 → Fin 1024 → Fin 4096 → EReal := fun b f n => (show FVec Ideal S16x1024x4096 .bf16 from m ((c : Thread nD τ).loc main_arg0)) (ix3 b f n)
abbrev kk : Fin 16 → Fin 4096 → Fin 512 → EReal := fun b n f => (show FVec Ideal S16x4096x512 .bf16 from m ((c : Thread nD τ).loc main_arg1)) (ix3 b n f)
abbrev cg : Fin 16 → Fin 4096 → Fin 128 → EReal := fun b n f => (show FVec Ideal S16x4096x128 .bf16 from m ((c : Thread nD τ).loc main_arg2)) (ix3 b n f)
abbrev gn : Fin 512 → EReal := fun f => (show FVec Ideal S512 .f32 from m ((c : Thread nD τ).loc main_arg3)) (ix1 f)

/-- The score of key `j` of block `k` for query `q`. -/
def sc (h : Fin 8) (q : Fin 256) (k : Fin 16) (j : Fin 256) : EReal :=
  FoxSpec.score (qv m c) (kk m c) (cg m c) (bat t) h (pos t q) (key k j)

/-- A block's share of the sum, and of the weighted values. -/
def mass (h : Fin 8) (q : Fin 256) (k : Fin 16) : EReal := ∑ j : Fin 256, Ideal.exp2 (sc m c t h q k j)
def held (h : Fin 8) (q : Fin 256) (e : Fin 64) (k : Fin 16) : EReal :=
  ∑ j : Fin 256, qv m c (bat t) ⟨512 + (h.val * 64 + e.val), by omega⟩ (key k j) * Ideal.exp2 (sc m c t h q k j)

/-- The first `k` blocks' shares. -/
def massTo (h : Fin 8) (q : Fin 256) (k : ℕ) : EReal := ∑ B : Fin 16, if B.val < k then mass m c t h q B else 0
def heldTo (h : Fin 8) (q : Fin 256) (k : ℕ) (e : Fin 64) : EReal := ∑ B : Fin 16, if B.val < k then held m c t h q e B else 0

theorem massTo_succ (h : Fin 8) (q : Fin 256) (k : ℕ) (hk : k < 16) :
    massTo m c t h q (k + 1) = massTo m c t h q k + mass m c t h q ⟨k, hk⟩ := FoxMath.sum_before_succ _ k hk
theorem heldTo_succ (h : Fin 8) (q : Fin 256) (k : ℕ) (hk : k < 16) (e : Fin 64) :
    heldTo m c t h q (k + 1) e = heldTo m c t h q k e + held m c t h q e ⟨k, hk⟩ := FoxMath.sum_before_succ _ k hk

theorem pair_lt : t.val / 16 % 4 < 4 := by omega

variable (Fi : FoxSpec.Finite (qv m c) (kk m c) (cg m c))
include Fi

/-- The first head's product with a slice of the keys is its score without the mask. -/
theorem raw0 (q : Fin 256) (k : Fin 16) (o o' : Fin 3 → ℕ) (h h') (ho : o = ![0, 256 * k.val, 0]) (ho' : o' = ![0, 256 * k.val, 0]) (j : Fin 256) :
    Rows.raw (q0 m c t) (kvBlk m c t o h) (cgBlk m c t o' h') q j
      = FoxSpec.dot (qv m c) (kk m c) (bat t) (head0 t) (pos t q) (key k j) - FoxSpec.decay (cg m c) (bat t) (head0 t) (key k j) := by
  rw [q0_eq]
  refine (Query.raw_run (iblk m c 0 t) q _ _ _ j 0 (6 * (t.val / 16 % 4)) (by omega) (by omega)
    (fun x => Query.lo0 _ _ q x) (fun x => Query.hi0 _ _ q x ⟨t.val / 16 % 4, by omega⟩ (pair_eq t))).trans ?_
  rw [sub_eq_add_neg, FoxSpec.decay, ← Query.sum_neg _ (fun i => Fi.c _ _ _ (by unfold head0; dsimp only; omega))]
  refine congrArg₂ (· + ·) ?_ ?_
  · unfold FoxSpec.dot
    refine Finset.sum_congr rfl fun d _ => ?_
    rw [kv_at m c t k o h ho, mul_comm]
    refine congrArg₂ (· * ·) ((blk0 m c t _ q).trans ?_) ?_
    · unfold head0; pointwise; blk_ext
    · unfold head0; pointwise; blk_ext
  · refine Finset.sum_congr rfl fun d _ => ?_
    rw [cg_at m c t k o' h' ho']
    refine congrArg (· * ((-1 : ℝ) : EReal)) ?_
    unfold head0; pointwise; blk_ext

theorem raw1 (q : Fin 256) (k : Fin 16) (o o' : Fin 3 → ℕ) (h h') (ho : o = ![0, 256 * k.val, 0]) (ho' : o' = ![0, 256 * k.val, 0]) (j : Fin 256) :
    Rows.raw (q1 m c t) (kvBlk m c t o h) (cgBlk m c t o' h') q j
      = FoxSpec.dot (qv m c) (kk m c) (bat t) (head1 t) (pos t q) (key k j) - FoxSpec.decay (cg m c) (bat t) (head1 t) (key k j) := by
  rw [q1_eq]
  refine (Query.raw_run (iblk m c 0 t) q _ _ _ j 64 (6 * (t.val / 16 % 4) + 3) (by omega) (by omega)
    (fun x => Query.lo1 _ _ q x) (fun x => Query.hi1 _ _ q x ⟨t.val / 16 % 4, by omega⟩ (pair_eq t))).trans ?_
  rw [sub_eq_add_neg, FoxSpec.decay, ← Query.sum_neg _ (fun i => Fi.c _ _ _ (by unfold head1; dsimp only; omega))]
  refine congrArg₂ (· + ·) ?_ ?_
  · unfold FoxSpec.dot
    refine Finset.sum_congr rfl fun d _ => ?_
    rw [kv_at m c t k o h ho, mul_comm]
    refine congrArg₂ (· * ·) ((blk0 m c t _ q).trans ?_) ?_
    · unfold head1; pointwise; blk_ext
    · unfold head1; pointwise; blk_ext
  · refine Finset.sum_congr rfl fun d _ => ?_
    rw [cg_at m c t k o' h' ho']
    refine congrArg (· * ((-1 : ℝ) : EReal)) ?_
    unfold head1; pointwise; blk_ext

theorem sc_ne_top (h : Fin 8) (q : Fin 256) (k : Fin 16) (j : Fin 256) : sc m c t h q k j ≠ ⊤ := FoxSpec.score_ne_top Fi _ _ _ _

theorem sc_before (h : Fin 8) (q : Fin 256) (k : Fin 16) (hk : k.val < t.val % 16) (j : Fin 256) :
    sc m c t h q k j = FoxSpec.dot (qv m c) (kk m c) (bat t) h (pos t q) (key k j) - FoxSpec.decay (cg m c) (bat t) h (key k j) := by
  unfold sc FoxSpec.score
  exact if_pos (by unfold key pos; dsimp only; omega)

theorem sc_at (h : Fin 8) (q : Fin 256) (k : Fin 16) (hk : k.val = t.val % 16) (j : Fin 256) :
    sc m c t h q k j = if j.val ≤ q.val then FoxSpec.dot (qv m c) (kk m c) (bat t) h (pos t q) (key k j) - FoxSpec.decay (cg m c) (bat t) h (key k j) else ⊥ := by
  unfold sc FoxSpec.score
  refine if_congr ?_ rfl rfl
  unfold key pos
  dsimp only
  omega

theorem sc_some (h : Fin 8) (q : Fin 256) (k : Fin 16) (hk : k.val ≤ t.val % 16) : ∃ j, sc m c t h q k j ≠ ⊥ :=
  ⟨0, FoxSpec.score_ne_bot Fi _ _ _ _ (by unfold key pos; simp; omega)⟩

/-- What the loop carries for a query, in the first head and in the second. -/
def Holds0 (q : Fin 256) (k : ℕ) (a : St Ideal) : Prop :=
  FoxMath.Inv (a.1 (ix2 0 q)) (a.2.1 (ix2 0 q)) (massTo m c t (head0 t) q k) (fun e : Fin 64 => a.2.2.1 (ix2 e q)) (heldTo m c t (head0 t) q k)
def Holds1 (q : Fin 256) (k : ℕ) (a : St Ideal) : Prop :=
  FoxMath.Inv (a.2.2.2.1 (ix2 0 q)) (a.2.2.2.2.1 (ix2 0 q)) (massTo m c t (head1 t) q k) (fun e : Fin 64 => a.2.2.2.2.2 (ix2 e q))
    (heldTo m c t (head1 t) q k)

omit Fi in
theorem holds_start0 (q : Fin 256) : Holds0 m c t q 0 start :=
  .inl ⟨by unfold start; pointwise [k0_pay33]; exact Rows.mask_bot, by unfold start; pointwise [k0_pay34], by simp [massTo],
    fun e => ⟨by unfold start; pointwise [k0_pay35], by simp [heldTo]⟩⟩
omit Fi in
theorem holds_start1 (q : Fin 256) : Holds1 m c t q 0 start :=
  .inl ⟨by unfold start; pointwise [k0_pay36]; exact Rows.mask_bot, by unfold start; pointwise [k0_pay37], by simp [massTo],
    fun e => ⟨by unfold start; pointwise [k0_pay38], by simp [heldTo]⟩⟩

/-- A trip of the loop. -/
theorem holds0_step (q : Fin 256) (k : Fin (k0_t1_loop (grid0.coords t)).trips) (hk : k.val < t.val % 16) (a : St Ideal) (h1 h1' h2 h3)
    (ih : Holds0 m c t q k.val a) :
    Holds0 m c t q (k.val + 1) (step (q0 m c t) (q1 m c t) (kvBlk m c t (k0_off1 (grid0.coords t) k) h1) (cgBlk m c t (k0_off1 (grid0.coords t) k) h1')
      (vBlk m c t (k0_off2 (grid0.coords t) k) h2) (vBlk m c t (k0_off3 (grid0.coords t) k) h3) a) := by
  have hk16 : k.val < 16 := by omega
  have o1 := off1 t k
  have o2 := off2 t k
  have hS : ∀ j, k0_pay3 (F := Ideal) (q0 m c t) (kvBlk m c t (k0_off1 (grid0.coords t) k) h1)
      (cgBlk m c t (k0_off1 (grid0.coords t) k) h1') (ix2 j q) = sc m c t (head0 t) q ⟨k.val, hk16⟩ j := fun j => by
    rw [Rows.pay3_row, raw0 m c t Fi q ⟨k.val, hk16⟩ _ _ _ _ o1 o1, sc_before m c t Fi _ _ ⟨k.val, hk16⟩ hk]
  have hM := Rows.pay4_row _ _ _ q a.1 _ hS
  have := FoxMath.Inv.step ih _ (fun e j => qv m c (bat t) ⟨512 + ((head0 t).val * 64 + e.val), by omega⟩ (key ⟨k.val, hk16⟩ j))
    (sc_ne_top m c t Fi (head0 t) q ⟨k.val, hk16⟩) (sc_some m c t Fi (head0 t) q ⟨k.val, hk16⟩ hk.le) rfl
  unfold Holds0 step
  dsimp only
  rw [hM, Rows.pay7_row _ _ _ q a.1 a.2.1 _ hS hM, massTo_succ _ _ _ _ _ _ hk16]
  have ea : (fun e : Fin 64 => Ideal.exp2 (a.1 (ix2 0 q) - max (a.1 (ix2 0 q)) (Finset.fold max ⊥ (sc m c t (head0 t) q ⟨k.val, hk16⟩) Finset.univ)) * a.2.2.1 (ix2 e q)
      + ∑ x, qv m c (bat t) ⟨512 + ((head0 t).val * 64 + e.val), by omega⟩ (key ⟨k.val, hk16⟩ x)
        * Ideal.exp2 (sc m c t (head0 t) q ⟨k.val, hk16⟩ x - max (a.1 (ix2 0 q)) (Finset.fold max ⊥ (sc m c t (head0 t) q ⟨k.val, hk16⟩) Finset.univ)))
      = fun e : Fin 64 => k0_pay8 (F := Ideal) (q0 m c t) a.1 a.2.2.1 (kvBlk m c t (k0_off1 (grid0.coords t) k) h1) (cgBlk m c t (k0_off1 (grid0.coords t) k) h1') (vBlk m c t (k0_off2 (grid0.coords t) k) h2) (ix2 e q) := funext fun e => by
    rw [Rows.pay8_row _ _ _ _ q a.1 a.2.2.1 _ hS hM]
    refine congrArg₂ (· + ·) rfl (Finset.sum_congr rfl fun x _ => ?_)
    rw [v_at0 m c t ⟨k.val, hk16⟩ _ _ o2]
  have eV : (fun e => heldTo m c t (head0 t) q k.val e + held m c t (head0 t) q e ⟨k.val, hk16⟩) = heldTo m c t (head0 t) q (k.val + 1) :=
    funext fun e => (heldTo_succ m c t _ _ _ hk16 e).symm
  rw [← ea, ← eV]
  exact this

theorem holds0 (q : Fin 256) : ∀ k : ℕ, k ≤ t.val % 16 → Holds0 m c t q k (carried m c t k)
  | 0, _ => by rw [carried_zero]; exact holds_start0 m c t q
  | k + 1, hk => by
    have ih := holds0 q k (by omega)
    have hlt : k < (k0_t1_loop (grid0.coords t)).trips := by rw [trips1]; omega
    have e := carried_succ m c t ⟨k, hlt⟩
    have s := holds0_step m c t Fi q ⟨k, hlt⟩ hk (carried m c t k) (k0_off1_inb _ ⟨k, hlt⟩) (k0_off1_inb _ ⟨k, hlt⟩)
      (k0_off2_inb _ ⟨k, hlt⟩) (k0_off3_inb _ ⟨k, hlt⟩) ih
    exact e ▸ s

/-- A trip of the loop. -/
theorem holds1_step (q : Fin 256) (k : Fin (k0_t1_loop (grid0.coords t)).trips) (hk : k.val < t.val % 16) (a : St Ideal) (h1 h1' h2 h3)
    (ih : Holds1 m c t q k.val a) :
    Holds1 m c t q (k.val + 1) (step (q0 m c t) (q1 m c t) (kvBlk m c t (k0_off1 (grid0.coords t) k) h1) (cgBlk m c t (k0_off1 (grid0.coords t) k) h1')
      (vBlk m c t (k0_off2 (grid0.coords t) k) h2) (vBlk m c t (k0_off3 (grid0.coords t) k) h3) a) := by
  have hk16 : k.val < 16 := by omega
  have o1 := off1 t k
  have o2 := off3 t k
  have hS : ∀ j, k0_pay9 (F := Ideal) (q1 m c t) (kvBlk m c t (k0_off1 (grid0.coords t) k) h1)
      (cgBlk m c t (k0_off1 (grid0.coords t) k) h1') (ix2 j q) = sc m c t (head1 t) q ⟨k.val, hk16⟩ j := fun j => by
    rw [Rows.pay9_row, raw1 m c t Fi q ⟨k.val, hk16⟩ _ _ _ _ o1 o1, sc_before m c t Fi _ _ ⟨k.val, hk16⟩ hk]
  have hM := Rows.pay10_row _ _ _ q a.2.2.2.1 _ hS
  have := FoxMath.Inv.step ih _ (fun e j => qv m c (bat t) ⟨512 + ((head1 t).val * 64 + e.val), by omega⟩ (key ⟨k.val, hk16⟩ j))
    (sc_ne_top m c t Fi (head1 t) q ⟨k.val, hk16⟩) (sc_some m c t Fi (head1 t) q ⟨k.val, hk16⟩ hk.le) rfl
  unfold Holds1 step
  dsimp only
  rw [hM, Rows.pay13_row _ _ _ q a.2.2.2.1 a.2.2.2.2.1 _ hS hM, massTo_succ _ _ _ _ _ _ hk16]
  have ea : (fun e : Fin 64 => Ideal.exp2 (a.2.2.2.1 (ix2 0 q) - max (a.2.2.2.1 (ix2 0 q)) (Finset.fold max ⊥ (sc m c t (head1 t) q ⟨k.val, hk16⟩) Finset.univ)) * a.2.2.2.2.2 (ix2 e q)
      + ∑ x, qv m c (bat t) ⟨512 + ((head1 t).val * 64 + e.val), by omega⟩ (key ⟨k.val, hk16⟩ x)
        * Ideal.exp2 (sc m c t (head1 t) q ⟨k.val, hk16⟩ x - max (a.2.2.2.1 (ix2 0 q)) (Finset.fold max ⊥ (sc m c t (head1 t) q ⟨k.val, hk16⟩) Finset.univ)))
      = fun e : Fin 64 => k0_pay39 (F := Ideal) a.2.2.2.2.2 (k0_pay11 (q1 m c t) a.2.2.2.1 (kvBlk m c t (k0_off1 (grid0.coords t) k) h1) (cgBlk m c t (k0_off1 (grid0.coords t) k) h1')) (k0_pay12 (q1 m c t) a.2.2.2.1 (kvBlk m c t (k0_off1 (grid0.coords t) k) h1) (cgBlk m c t (k0_off1 (grid0.coords t) k) h1')) (vBlk m c t (k0_off3 (grid0.coords t) k) h3) (ix2 e q) := funext fun e => by
    rw [Rows.pay39_row _ _ _ _ q a.2.2.2.1 a.2.2.2.2.2 _ hS hM]
    refine congrArg₂ (· + ·) rfl (Finset.sum_congr rfl fun x _ => ?_)
    rw [v_at1 m c t ⟨k.val, hk16⟩ _ _ o2]
  have eV : (fun e => heldTo m c t (head1 t) q k.val e + held m c t (head1 t) q e ⟨k.val, hk16⟩) = heldTo m c t (head1 t) q (k.val + 1) :=
    funext fun e => (heldTo_succ m c t _ _ _ hk16 e).symm
  rw [← ea, ← eV]
  exact this

theorem holds1 (q : Fin 256) : ∀ k : ℕ, k ≤ t.val % 16 → Holds1 m c t q k (carried m c t k)
  | 0, _ => by rw [carried_zero]; exact holds_start1 m c t q
  | k + 1, hk => by
    have ih := holds1 q k (by omega)
    have hlt : k < (k0_t1_loop (grid0.coords t)).trips := by rw [trips1]; omega
    have e := carried_succ m c t ⟨k, hlt⟩
    have s := holds1_step m c t Fi q ⟨k, hlt⟩ hk (carried m c t k) (k0_off1_inb _ ⟨k, hlt⟩) (k0_off1_inb _ ⟨k, hlt⟩)
      (k0_off2_inb _ ⟨k, hlt⟩) (k0_off3_inb _ ⟨k, hlt⟩) ih
    exact e ▸ s

omit Fi in
/-- Beyond the query's own block nothing is left to add. -/
theorem massTo_all (h : Fin 8) (q : Fin 256) :
    massTo m c t h q (t.val % 16 + 1) = FoxSpec.mass (qv m c) (kk m c) (cg m c) (bat t) h (pos t q) := by
  unfold massTo FoxSpec.mass
  rw [Fin.sum_univ_tiles 16 256 rfl]
  refine (FoxMath.sum_before_all _ _ fun B hB => ?_).trans (Finset.sum_congr rfl fun B _ => Finset.sum_congr rfl fun j _ => ?_)
  · refine Finset.sum_eq_zero fun j _ => ?_
    unfold sc FoxSpec.score
    rw [if_neg (by unfold key pos; dsimp only; omega)]
    exact Ideal.exp2_bot
  · unfold sc
    refine congrArg (fun x => Ideal.exp2 (FoxSpec.score _ _ _ _ _ _ x)) (Fin.ext ?_)
    show 256 * B.val + j.val = B.val * 256 + j.val
    omega

omit Fi in
theorem heldTo_all (h : Fin 8) (q : Fin 256) (e : Fin 64) :
    heldTo m c t h q (t.val % 16 + 1) e = FoxSpec.gathered (qv m c) (kk m c) (cg m c) (bat t) h (pos t q) e := by
  unfold heldTo FoxSpec.gathered
  rw [Fin.sum_univ_tiles 16 256 rfl]
  refine (FoxMath.sum_before_all _ _ fun B hB => ?_).trans (Finset.sum_congr rfl fun B _ => Finset.sum_congr rfl fun j _ => ?_)
  · refine Finset.sum_eq_zero fun j _ => ?_
    unfold sc FoxSpec.score
    rw [if_neg (by unfold key pos; dsimp only; omega), Ideal.exp2_bot]
    exact mul_zero _
  · unfold sc
    refine congrArg (fun x => qv m c (bat t) _ x * Ideal.exp2 (FoxSpec.score _ _ _ _ _ _ x)) (Fin.ext ?_)
    show 256 * B.val + j.val = B.val * 256 + j.val
    omega

/-- A query sees its own position, so its weights' sum is a positive number. -/
theorem mass_pos (h : Fin 8) (n : Fin 4096) : ∃ α : ℝ, 0 < α ∧ FoxSpec.mass (qv m c) (kk m c) (cg m c) (bat t) h n = α :=
  FoxMath.sum_exp2 _ (fun k => FoxSpec.score_ne_top Fi _ _ _ k) ⟨n, FoxSpec.score_ne_bot Fi _ _ _ _ (le_refl _)⟩

/-- The finished quotient, in each head. -/
theorem quot0 (q : Fin 256) (h7 h8) (e : Fin 64) :
    Ideal.div (k0_pay48 (F := Ideal) (q0 m c t) k0_pay32 (carried m c t (t.val % 16)).1 (carried m c t (t.val % 16)).2.2.1
        (k0_pay41 (kvBlk m c t (k0_off7 (grid0.coords t)) h7)) (cgBlk m c t (k0_off7 (grid0.coords t)) h7) (vBlk m c t (k0_off8 (grid0.coords t)) h8) (ix2 e q))
      (k0_pay47 (F := Ideal) (q0 m c t) k0_pay32 (carried m c t (t.val % 16)).1 (carried m c t (t.val % 16)).2.1
        (k0_pay41 (kvBlk m c t (k0_off7 (grid0.coords t)) h7)) (cgBlk m c t (k0_off7 (grid0.coords t)) h7) (ix2 0 q))
    = FoxSpec.mean (qv m c) (kk m c) (cg m c) (bat t) (head0 t) (pos t q) e := by
  have ih := holds0 m c t Fi q _ (le_refl _)
  generalize carried m c t (t.val % 16) = a at ih ⊢
  have hk16 : t.val % 16 < 16 := by omega
  have o7 := off7 t
  have o8 := off8 t
  have hS : ∀ j, k0_pay43 (F := Ideal) (q0 m c t) k0_pay32 (k0_pay41 (kvBlk m c t (k0_off7 (grid0.coords t)) h7)) (cgBlk m c t (k0_off7 (grid0.coords t)) h7) (ix2 j q)
      = sc m c t (head0 t) q ⟨t.val % 16, hk16⟩ j := fun j => by
    rw [Rows.pay43_row, raw0 m c t Fi q ⟨t.val % 16, hk16⟩ _ _ _ _ o7 o7, sc_at m c t Fi _ _ _ rfl]
  have hM := Rows.pay44_row _ _ _ q a.1 _ hS
  have := FoxMath.Inv.step ih _ (fun e j => qv m c (bat t) ⟨512 + ((head0 t).val * 64 + e.val), by omega⟩ (key ⟨t.val % 16, hk16⟩ j))
    (sc_ne_top m c t Fi (head0 t) q ⟨t.val % 16, hk16⟩) (sc_some m c t Fi (head0 t) q ⟨t.val % 16, hk16⟩ (le_refl _)) rfl
  obtain ⟨α, hα, hA⟩ := mass_pos m c t Fi (head0 t) (pos t q)
  have hA' : massTo m c t (head0 t) q (t.val % 16) + mass m c t (head0 t) q ⟨t.val % 16, hk16⟩ = α := by
    rw [← massTo_succ, massTo_all, hA]
  have hd := FoxMath.Inv.div this α hα hA' e
  rw [FoxSpec.mean, ← massTo_all, ← heldTo_all, massTo_succ _ _ _ _ _ _ hk16, heldTo_succ _ _ _ _ _ _ hk16]
  refine Eq.trans ?_ hd
  rw [Rows.pay47_row _ _ _ q a.1 a.2.1 _ hS hM, Rows.pay48_row _ _ _ _ q a.1 a.2.2.1 _ hS hM]
  refine congrArg (fun x : EReal => Ideal.div x _) (congrArg₂ (· + ·) rfl (Finset.sum_congr rfl fun x _ => ?_))
  rw [v_at0 m c t ⟨t.val % 16, hk16⟩ _ _ o8]

theorem quot1 (q : Fin 256) (h7 h9) (e : Fin 64) :
    Ideal.div (Rows.acc1 (q1 m c t) (kvBlk m c t (k0_off7 (grid0.coords t)) h7) (cgBlk m c t (k0_off7 (grid0.coords t)) h7)
        (vBlk m c t (k0_off9 (grid0.coords t)) h9) q (carried m c t (t.val % 16)).2.2.2.1 (carried m c t (t.val % 16)).2.2.2.2.2 e)
      (k0_pay53 (F := Ideal) (q1 m c t) k0_pay32 (carried m c t (t.val % 16)).2.2.2.1 (carried m c t (t.val % 16)).2.2.2.2.1
        (k0_pay41 (kvBlk m c t (k0_off7 (grid0.coords t)) h7)) (cgBlk m c t (k0_off7 (grid0.coords t)) h7) (ix2 0 q))
    = FoxSpec.mean (qv m c) (kk m c) (cg m c) (bat t) (head1 t) (pos t q) e := by
  have ih := holds1 m c t Fi q _ (le_refl _)
  generalize carried m c t (t.val % 16) = a at ih ⊢
  have hk16 : t.val % 16 < 16 := by omega
  have o7 := off7 t
  have o9 := off9 t
  have hS : ∀ j, k0_pay49 (F := Ideal) (q1 m c t) k0_pay32 (k0_pay41 (kvBlk m c t (k0_off7 (grid0.coords t)) h7)) (cgBlk m c t (k0_off7 (grid0.coords t)) h7) (ix2 j q)
      = sc m c t (head1 t) q ⟨t.val % 16, hk16⟩ j := fun j => by
    rw [Rows.pay49_row, raw1 m c t Fi q ⟨t.val % 16, hk16⟩ _ _ _ _ o7 o7, sc_at m c t Fi _ _ _ rfl]
  have hM := Rows.pay50_row _ _ _ q a.2.2.2.1 _ hS
  have := FoxMath.Inv.step ih _ (fun e j => qv m c (bat t) ⟨512 + ((head1 t).val * 64 + e.val), by omega⟩ (key ⟨t.val % 16, hk16⟩ j))
    (sc_ne_top m c t Fi (head1 t) q ⟨t.val % 16, hk16⟩) (sc_some m c t Fi (head1 t) q ⟨t.val % 16, hk16⟩ (le_refl _)) rfl
  obtain ⟨α, hα, hA⟩ := mass_pos m c t Fi (head1 t) (pos t q)
  have hA' : massTo m c t (head1 t) q (t.val % 16) + mass m c t (head1 t) q ⟨t.val % 16, hk16⟩ = α := by
    rw [← massTo_succ, massTo_all, hA]
  have hd := FoxMath.Inv.div this α hα hA' e
  rw [FoxSpec.mean, ← massTo_all, ← heldTo_all, massTo_succ _ _ _ _ _ _ hk16, heldTo_succ _ _ _ _ _ _ hk16]
  refine Eq.trans ?_ hd
  rw [Rows.pay53_row _ _ _ q a.2.2.2.1 a.2.2.2.2.1 _ hS hM, Rows.acc1_row _ _ _ _ q a.2.2.2.1 a.2.2.2.2.2 _ hS hM]
  refine congrArg (fun x : EReal => Ideal.div x _) (congrArg₂ (· + ·) rfl (Finset.sum_congr rfl fun x _ => ?_))
  rw [v_at1 m c t ⟨t.val % 16, hk16⟩ _ _ o9]

/-- The block a grid point writes, lane by lane. -/
theorem block0 (q : Fin 256) (e : Fin 64) : outsAt0 m c t (ix3 0 q ⟨e.val, by omega⟩)
    = FoxSpec.attn (qv m c) (kk m c) (cg m c) (gn m c) (bat t) (pos t q) (head0 t) e := by
  rw [Open.out]
  unfold last
  rw [Rows.pay1_row0, FoxSpec.attn]
  refine congrArg₂ (fun o w => FoxSpec.unit o e w) (funext fun x => quot0 m c t Fi q _ _ x) ((blk4 m c t _ q).trans ?_)
  unfold head0; pointwise; blk_ext

theorem block1 (q : Fin 256) (e : Fin 64) : outsAt0 m c t (ix3 0 q ⟨64 + e.val, by omega⟩)
    = FoxSpec.attn (qv m c) (kk m c) (cg m c) (gn m c) (bat t) (pos t q) (head1 t) e := by
  rw [Open.out]
  unfold last
  rw [Rows.pay1_row1, FoxSpec.attn]
  refine congrArg₂ (fun o w => FoxSpec.unit o e w) (funext fun x => quot1 m c t Fi q _ _ x) ((blk4 m c t _ q).trans ?_)
  unfold head1; pointwise; blk_ext

end Cert.FoxIdeal.Scan

end
-- ==== Proof.FoxRefRows.lean ====
module

public import proofs.«01_k».proof.Proof.FoxSpec
public import proofs.«01_k».proof.Proof.FoxMath
public import proofs.«01_k».proof.Proof.FoxWords
public import proofs.«01_k».proof.Proof.Gen.FoxRefIdeal
public import proofs.«01_k».proof.Proof.Gen.FoxRefIdeal.Run

/-! The attention's reference, stage by stage and entry by entry. -/

@[expose] public section

set_option maxRecDepth 16384

noncomputable section

namespace Cert.FoxRefIdeal.Rows

open Cert.FoxRefIdeal Cert.FoxRefIdeal.Gen Idealize.ShloMosaic Idealize.ShloMosaic.TcCoe Idealize.SL.Sem
open Idealize.ShloMosaic.StableHlo

variable (a0 : FVec Ideal S16x1024x4096 .bf16) (a1 : FVec Ideal S16x4096x512 .bf16) (a2 : FVec Ideal S16x4096x128 .bf16)
  (a3 : FVec Ideal S512 .f32)

/-- The queries by head. -/
def qs : FVec Ideal S16x8x4096x64 .f32 :=
  transpose S16x8x4096x64 [0, 1, 3, 2] (shapeCast _ (extf .f32 (extractStridedSlice S16x512x4096 ![0, 0, 0] a0 slices_S16x1024x4096_S16x512x4096_0_0_0) bitsLt_bf16_f32) shapeCasts_S16x512x4096_S16x8x64x4096) transposes_S16x8x64x4096_S16x8x4096x64_0_1_3_2

/-- The values by head. -/
def vs : FVec Ideal S16x8x4096x64 .f32 :=
  transpose S16x8x4096x64 [0, 1, 3, 2] (shapeCast _ (extf .f32 (extractStridedSlice S16x512x4096 ![0, 512, 0] a0 slices_S16x1024x4096_S16x512x4096_0_512_0) bitsLt_bf16_f32) shapeCasts_S16x512x4096_S16x8x64x4096) transposes_S16x8x64x4096_S16x8x4096x64_0_1_3_2

/-- The keys by head. -/
def ks : FVec Ideal S16x8x4096x64 .f32 :=
  transpose S16x8x4096x64 [0, 2, 1, 3] (shapeCast _ (extf .f32 a1 bitsLt_bf16_f32) shapeCasts_S16x4096x512_S16x4096x8x64) transposes_S16x4096x8x64_S16x8x4096x64_0_2_1_3

/-- The decay by head. -/
def cs : FVec Ideal S16x8x4096 .f32 :=
  transpose S16x8x4096 [0, 2, 1] (Host.reduceAdd (shapeCast _ (extf .f32 (extractStridedSlice S16x4096x24 ![0, 0, 0] a2 slices_S16x4096x128_S16x4096x24_0_0_0) bitsLt_bf16_f32) shapeCasts_S16x4096x24_S16x4096x8x3) (constant S_ .f32 0x00000000#32) reducesTo_S16x4096x8x3_S16x4096x8_d3 h_S_) transposes_S16x4096x8_S16x8x4096_0_2_1

/-- The scores. -/
def scores : FVec Ideal S16x8x4096x4096 .f32 :=
  select (broadcastInDim S16x8x4096x4096 ![2, 3] bcast_S4096x4096_S16x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (mulf (subf (addf (Host.dotGeneral dot_S16x8x4096x64_S16x8x4096x64_S16x8x4096x4096_3_3_2_2_01_01 none (qs a0) (ks a1)) (broadcastInDim S16x8x4096x4096 ![0, 1, 2, 3] bcast_S16x8x4096x1_S16x8x4096x4096_0_1_2_3 (broadcastInDim S16x8x4096x1 ![0, 1, 2] bcast_S16x8x4096_S16x8x4096x1_0_1_2 (cs a2)))) (broadcastInDim S16x8x4096x4096 ![0, 1, 2, 3] bcast_S16x8x1x4096_S16x8x4096x4096_0_1_2_3 (broadcastInDim S16x8x1x4096 ![0, 1, 3] bcast_S16x8x4096_S16x8x1x4096_0_1_3 (cs a2)))) (broadcastInDim S16x8x4096x4096 ![] bcast_S_S16x8x4096x4096 (Host.log (constant S_ .f32 0x40000000#32))))
    (broadcastInDim S16x8x4096x4096 ![] bcast_S_S16x8x4096x4096 (id (constant S_ .f32 0xFF800000#32)))

/-- Their maximum over the keys. -/
def top : FVec Ideal S16x8x4096 .f32 :=
  maximumf (broadcastInDim S16x8x4096 ![] bcast_S_S16x8x4096 (constant S_ .f32 0xFF800000#32)) (Host.reduce FloatOps.maximumf (scores a0 a1 a2) (constant S_ .f32 0xFF800000#32) reducesTo_S16x8x4096x4096_S16x8x4096_d3 h_S_)

/-- The exponentials. -/
def exps : FVec Ideal S16x8x4096x4096 .f32 :=
  Host.exp (subf (scores a0 a1 a2) (broadcastInDim S16x8x4096x4096 ![0, 1, 2, 3] bcast_S16x8x4096x1_S16x8x4096x4096_0_1_2_3 (broadcastInDim S16x8x4096x1 ![0, 1, 2] bcast_S16x8x4096_S16x8x4096x1_0_1_2 (top a0 a1 a2))))

/-- The attention's output, a position's heads together. -/
def outs : FVec Ideal S16x4096x8x64 .f32 :=
  transpose S16x4096x8x64 [0, 2, 1, 3] (Host.dotGeneral dot_S16x8x4096x4096_S16x8x4096x64_S16x8x4096x64_3_2_2_3_01_01 none (Host.divf (exps a0 a1 a2) (broadcastInDim S16x8x4096x4096 ![0, 1, 2, 3] bcast_S16x8x4096x1_S16x8x4096x4096_0_1_2_3 (broadcastInDim S16x8x4096x1 ![0, 1, 2] bcast_S16x8x4096_S16x8x4096x1_0_1_2 (Host.reduceAdd (exps a0 a1 a2) (constant S_ .f32 0x00000000#32) reducesTo_S16x8x4096x4096_S16x8x4096_d3 h_S_)))) (vs a0)) transposes_S16x8x4096x64_S16x4096x8x64_0_2_1_3

/-- Each head's mean square divided out, and the gain. -/
def normed : FVec Ideal S16x4096x512 .bf16 :=
  truncf .bf16 (mulf (shapeCast _ (mulf (outs a0 a1 a2) (broadcastInDim S16x4096x8x64 ![0, 1, 2, 3] bcast_S16x4096x8x1_S16x4096x8x64_0_1_2_3 (Host.rsqrt (addf (Host.divf (broadcastInDim S16x4096x8x1 ![0, 1, 2] bcast_S16x4096x8_S16x4096x8x1_0_1_2 (Host.reduceAdd (mulf (outs a0 a1 a2) (outs a0 a1 a2)) (constant S_ .f32 0x00000000#32) reducesTo_S16x4096x8x64_S16x4096x8_d3 h_S_)) (broadcastInDim S16x4096x8x1 ![] bcast_S_S16x4096x8x1 (constant S_ .f32 0x42800000#32))) (broadcastInDim S16x4096x8x1 ![] bcast_S_S16x4096x8x1 (constant S_ .f32 0x358637BD#32)))))) shapeCasts_S16x4096x8x64_S16x4096x512) (broadcastInDim S16x4096x512 ![0, 1, 2] bcast_S1x1x512_S16x4096x512_0_1_2 (broadcastInDim S1x1x512 ![2] bcast_S512_S1x1x512_2 a3))) bitsLt_bf16_f32

theorem res_eq (m : (ℓ : Loc nD τ sig) → Buf (Elt Ideal) ℓ) (c : Dev nD) :
    Value.res_out0 m c = normed (m ((c.tc : Thread nD τ).loc main_arg0)) (m ((c.tc : Thread nD τ).loc main_arg1))
      (m ((c.tc : Thread nD τ).loc main_arg2)) (m ((c.tc : Thread nD τ).loc main_arg3)) := rfl

/-- The arrays as functions of their places. -/
abbrev qvf : Fin 16 → Fin 1024 → Fin 4096 → EReal := fun b f n => a0 (ix3 b f n)
abbrev kf : Fin 16 → Fin 4096 → Fin 512 → EReal := fun b n f => a1 (ix3 b n f)
abbrev cf : Fin 16 → Fin 4096 → Fin 128 → EReal := fun b n f => a2 (ix3 b n f)
abbrev gf : Fin 512 → EReal := fun f => a3 (ix1 f)

variable (b : Fin 16) (h : Fin 8) (n k : Fin 4096) (e : Fin 64)

theorem qs_row : qs a0 (ix4 b h n e) = qvf a0 b ⟨h.val * 64 + e.val, by omega⟩ n := by
  pointwise [qs]

theorem vs_row : vs a0 (ix4 b h n e) = qvf a0 b ⟨512 + (h.val * 64 + e.val), by omega⟩ n := by
  pointwise [vs]

theorem ks_row : ks a1 (ix4 b h n e) = kf a1 b n ⟨h.val * 64 + e.val, by omega⟩ := by
  pointwise [ks]

theorem cs_row : cs a2 (ix3 b h n) = FoxSpec.decay (cf a2) b h n := by
  pointwise [cs, FoxSpec.decay]

/-- A maximum over the last of four axes, at any sizes. -/
theorem reduce_last {n0 n1 n2 n3 : ℕ} {u : Shape} (x : FVec Ideal (⟨4, ![n0, n1, n2, n3]⟩ : Shape) .f32) (init : FVec Ideal u .f32)
    (hr : (⟨4, ![n0, n1, n2, n3]⟩ : Shape).ReducesTo [3] (⟨3, ![n0, n1, n2]⟩ : Shape)) (hu : 0 < u.numel)
    (i0 : Fin n0) (i1 : Fin n1) (i2 : Fin n2) :
    Host.reduce FloatOps.maximumf x init hr hu (ix3 i0 i1 i2)
      = Finset.fold max (init (Shape.Idx.first hu)) (fun y : Fin n3 => x (ix4 i0 i1 i2 y)) Finset.univ := by
  pointwise

theorem maximum_at {s : Shape} (x y : FVec Ideal s .f32) (j : s.Idx) : maximumf x y j = max (x j) (y j) := rfl

theorem top_row : top a0 a1 a2 (ix3 b h n)
    = max (Ideal.ofBits .f32 0xFF800000#32)
      (Finset.fold max (Ideal.ofBits .f32 0xFF800000#32) (fun y : Fin 4096 => scores a0 a1 a2 (ix4 b h n y)) Finset.univ) := by
  unfold top
  generalize scores a0 a1 a2 = s
  rw [maximum_at]
  refine congrArg₂ max ?_ ?_
  · pointwise
  · exact reduce_last s (constant S_ .f32 0xFF800000#32) reducesTo_S16x8x4096x4096_S16x8x4096_d3 h_S_ b h n

theorem scores_row (F : FoxSpec.Finite (qvf a0) (kf a1) (cf a2)) : scores a0 a1 a2 (ix4 b h n k)
    = (FoxSpec.score (qvf a0) (kf a1) (cf a2) b h n k + FoxSpec.decay (cf a2) b h n) * ((Real.log 2 : ℝ) : EReal) := by
  pointwise [scores, qs_row, ks_row, cs_row]
  have e : (id (constant (F := Ideal) S_ .f32 4286578688#32) ix0 : EReal) = ⊥ := FoxWords.bot
  obtain ⟨r, hr⟩ := FoxSpec.dot_real F b h n k
  obtain ⟨c, hc⟩ := FoxSpec.decay_real F b h n
  obtain ⟨d, hd⟩ := FoxSpec.decay_real F b h k
  rw [FoxSpec.score, e, FoxWords.two, Ideal.log_coe, if_neg (by norm_num), hc, hd]
  have hr' : ∑ x : Fin 64, qvf a0 b ⟨h.val * 64 + x.val, by omega⟩ n * kf a1 b k ⟨h.val * 64 + x.val, by omega⟩ = ((r : ℝ) : EReal) := hr
  rw [hr', hr, FoxWords.select_sle _ _ (by omega) (by omega)]
  by_cases hk : k.val ≤ n.val
  · rw [if_pos hk, if_pos hk, ← EReal.coe_add, ← EReal.coe_sub, ← EReal.coe_sub, ← EReal.coe_add, add_sub_right_comm]
  · rw [if_neg hk, if_neg hk, EReal.bot_add, EReal.bot_mul_coe_of_pos (Real.log_pos one_lt_two)]

theorem exps_row : exps a0 a1 a2 (ix4 b h n k) = Ideal.exp (scores a0 a1 a2 (ix4 b h n k) - top a0 a1 a2 (ix3 b h n)) := by
  pointwise [exps]

theorem outs_sum : outs a0 a1 a2 (ix4 b n h e)
    = ∑ x : Fin 4096, Ideal.div (exps a0 a1 a2 (ix4 b h n x)) (∑ y : Fin 4096, exps a0 a1 a2 (ix4 b h n y)) * vs a0 (ix4 b h x e) := by
  pointwise [outs]

theorem outs_row (F : FoxSpec.Finite (qvf a0) (kf a1) (cf a2)) :
    outs a0 a1 a2 (ix4 b n h e) = FoxSpec.mean (qvf a0) (kf a1) (cf a2) b h n e := by
  obtain ⟨c, hc⟩ := FoxSpec.decay_real F b h n
  rw [outs_sum]
  simp only [exps_row, vs_row]
  rw [FoxSpec.mean, FoxSpec.gathered, FoxSpec.mass]
  refine FoxMath.softmax (fun y => FoxSpec.score (qvf a0) (kf a1) (cf a2) b h n y) (fun y => scores a0 a1 a2 (ix4 b h n y)) _ c
    (fun y => FoxSpec.score_ne_top F b h n y) ⟨n, FoxSpec.score_ne_bot F b h n n (le_refl _)⟩ (fun y => ?_) ?_
  · rw [scores_row a0 a1 a2 b h n y F, hc]
  · rw [top_row, FoxWords.bot]

theorem normed_row (F : FoxSpec.Finite (qvf a0) (kf a1) (cf a2)) (f : Fin 512) : normed a0 a1 a2 a3 (ix3 b n f)
    = FoxSpec.attn (qvf a0) (kf a1) (cf a2) (gf a3) b n ⟨f.val / 64, by omega⟩ ⟨f.val % 64, by omega⟩ := by
  pointwise [normed]
  simp only [outs_row a0 a1 a2 _ _ _ _ F]
  rw [FoxSpec.attn, FoxSpec.unit]
  congr 2
  exact congrArg ix1 (Fin.ext (by simp; omega))

end Cert.FoxRefIdeal.Rows

end
-- ==== Proof.FoxValue.lean ====
module

public import proofs.«01_k».proof.Proof.FoxScan
public import proofs.«01_k».proof.Proof.FoxRefRows

/-! The attention kernel's result array is the reference's. -/

@[expose] public section

set_option maxRecDepth 16384

noncomputable section

namespace Cert.FoxIdeal.Final

open Cert.FoxIdeal Cert.FoxIdeal.Gen Cert.FoxIdeal.Open Cert.FoxIdeal.Blocks Idealize.ShloMosaic Idealize.ShloMosaic.TcCoe Idealize.SL.Sem
open Cert.FoxIdeal.Scan (qv kk cg gn)

variable (m : (ℓ : Loc nD τ sig) → Buf (Elt Ideal) ℓ) (c : Dev nD)

/-- The reference's attention of the kernel's argument arrays. -/
abbrev attention : FVec Ideal S16x4096x512 .bf16 :=
  Cert.FoxRefIdeal.Rows.normed (m ((c.tc : Thread nD τ).loc main_arg0)) (m ((c.tc : Thread nD τ).loc main_arg1))
    (m ((c.tc : Thread nD τ).loc main_arg2)) (m ((c.tc : Thread nD τ).loc main_arg3))

variable (Fi : FoxSpec.Finite (qv m c) (kk m c) (cg m c))
include Fi

/-- Any lane of a block. -/
theorem block (t : Fin cfg0.N) (q : Fin 256) (x : Fin 128) : outsAt0 m c t (ix3 0 q x)
    = attention m c (ix3 (bat t) (pos t q) ⟨128 * (t.val / 16 % 4) + x.val, by omega⟩) := by
  refine Eq.trans ?_ (Cert.FoxRefIdeal.Rows.normed_row _ _ _ _ (bat t) (pos t q) Fi ⟨128 * (t.val / 16 % 4) + x.val, by omega⟩).symm
  by_cases hx : x.val < 64
  · refine (Scan.block0 m c t Fi q ⟨x.val, hx⟩).trans ?_
    refine congrArg₂ (fun h e => FoxSpec.attn (qv m c) (kk m c) (cg m c) (gn m c) (bat t) (pos t q) h e) (Fin.ext ?_) (Fin.ext ?_)
    · unfold head0; dsimp only; omega
    · dsimp only; omega
  · have e : x = (⟨64 + (x.val - 64), by omega⟩ : Fin 128) := Fin.ext (by dsimp only; omega)
    refine (congrArg (fun y => outsAt0 m c t (ix3 0 q y)) e).trans ?_
    refine (Scan.block1 m c t Fi q ⟨x.val - 64, by omega⟩).trans ?_
    refine congrArg₂ (fun h e => FoxSpec.attn (qv m c) (kk m c) (cg m c) (gn m c) (bat t) (pos t q) h e) (Fin.ext ?_) (Fin.ext ?_)
    · unfold head1; dsimp only; omega
    · dsimp only; omega

/-- The result array after the run. -/
theorem final : (dats m 0 c).arrAt 5 (cfgs 0).N = attention m c := by
  refine (dats m 0 c).arrAt_eq_of_covers 5 _ (by decide +kernel) fun t _ y => ?_
  rw [after0_5]
  idx_vars y
  have e : ((View.whole main_v2).slice (win0_5.rect t)).emb (ix3 y0 y1 y2)
      = (ix3 (bat t) (pos t y1) ⟨128 * (t.val / 16 % 4) + y2.val, by omega⟩ : S16x4096x512.Idx) := by
    unfold bat pos
    blk_ext [idx t]
  blk_simp
  rw [e]
  obtain rfl : y0 = 0 := Subsingleton.elim _ _
  exact block m c Fi t y1 y2

end Cert.FoxIdeal.Final

end
-- ==== Proof.FoxClaims.lean ====
module

public import proofs.«01_k».proof.Defs
public import proofs.«01_k».proof.Proof.Gen.Fox.Frame
public import proofs.«01_k».proof.Proof.Gen.FoxIdeal.Frame
public import proofs.«01_k».proof.Proof.Gen.FoxRefIdeal.Run
public import proofs.«01_k».proof.Proof.Gen.Pre_finite_fox
public import proofs.«01_k».proof.Proof.FoxPre
public import proofs.«01_k».proof.Proof.FoxValue

/-! The claims about the attention. -/

@[expose] public section

set_option maxRecDepth 16384

noncomputable section

namespace Cert.Proof.FoxClaims

open Idealize.ShloMosaic Idealize.SL.Sem

theorem frame_p : Cert.quiescent_Fox := fun m ρ _ => Cert.Fox.Gen.frame m ρ
theorem frame_pi : Cert.quiescent_FoxIdeal := fun m ρ _ => Cert.FoxIdeal.Gen.frame m ρ
theorem frame_ri : Cert.quiescent_FoxRefIdeal := fun m ρ _ =>
  (θ_run Cert.FoxRefIdeal.defs _ _).mono (fun r h => ⟨fun c => (h c).2, sem_eq_zero_of_no_sems (by decide) r.2⟩)
    (Cert.FoxRefIdeal.Value.run (F := Ideal) m ρ)

/-- The mask's constant is named, and the name denotes minus infinity. -/
theorem preserves : Cert.preserves_Fox_FoxIdeal :=
  IdealRules.named_const.statement Cert.FoxIdeal.κ "mask" .f32 0xF149F2CA#32 ⊥ rfl

/-- From agreeing arguments, finite where the scores are made of them, both end at the reference's attention of the
    kernel's arguments. -/
theorem algebraic : Cert.algebraic_FoxIdeal_FoxRefIdeal_pre_finite_fox := by
  intro m g m' g' hpre hagree
  refine ⟨_, Cert.FoxIdeal.Value.run_blocks (F := Ideal) m g, ?_⟩
  refine (θ_run Cert.FoxRefIdeal.defs _ _).mono (fun _ h c => ⟨(h c).1.trans ?_, (h c).2⟩)
    (Cert.FoxRefIdeal.Value.run (F := Ideal) m' g')
  obtain ⟨h0, h1, h2, h3⟩ := hagree c
  refine (Cert.FoxRefIdeal.Rows.res_eq m' c).trans ?_
  rw [h0, h1, h2, h3]
  exact (Cert.FoxIdeal.Final.final m c (Cert.FoxPre.finite _ _ _ _ (hpre c))).symm

end Cert.Proof.FoxClaims

end
-- ==== Proof.TailRefRows.lean ====
module

public import proofs.«01_k».proof.Proof.Gen.TailRefIdeal.Run
public import Idealize.ShloMosaic.Lib.Pointwise

/-! The reference of the layer's tail, one stage at a time, each read at one row. -/

@[expose] public section

set_option maxRecDepth 16384

noncomputable section

namespace Cert.TailRefIdeal.Rows

open Cert.TailRefIdeal Cert.TailRefIdeal.Gen Idealize.ShloMosaic Idealize.ShloMosaic.TcCoe Idealize.SL.Sem

/-- The residual after the mixing heads: the input plus the two branches, side by side, times the output projection. -/
def mixed (x : FVec Ideal S16x4096x1024 .f32) (fox ml : FVec Ideal S16x4096x512 .bf16) (w : FVec Ideal S1024x1024 .f32) :
    FVec Ideal S16x4096x1024 .f32 :=
  addf x (Host.dotGeneral dot_S16x4096x1024_S1024x1024_S16x4096x1024_2_0_01_1_n_n none (concatenate S16x4096x1024 2 [⟨S16x4096x512, (extf .f32 fox bitsLt_bf16_f32)⟩, ⟨S16x4096x512, (extf .f32 ml bitsLt_bf16_f32)⟩] concatenates_S16x4096x512_S16x4096x512_S16x4096x1024_d2) w)

/-- The root mean square norm of every row, times a gain. -/
def normed (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

/-- The residual after the squared-ReLU feed-forward layer over the normed row `h`. -/
def fed (x h : FVec Ideal S16x4096x1024 .f32) (up : FVec Ideal S1024x4096 .f32) (down : FVec Ideal S4096x1024 .f32) :
    FVec Ideal S16x4096x1024 .f32 :=
  addf x (Host.dotGeneral dot_S16x4096x4096_S4096x1024_S16x4096x1024_2_0_01_1_n_n none (mulf (maximumf (Host.dotGeneral dot_S16x4096x1024_S1024x4096_S16x4096x4096_2_0_01_1_n_n none h up) (broadcastInDim S16x4096x4096 ![] bcast_S_S16x4096x4096 (constant S_ .f32 0x00000000#32))) (maximumf (Host.dotGeneral dot_S16x4096x1024_S1024x4096_S16x4096x4096_2_0_01_1_n_n none h up) (broadcastInDim S16x4096x4096 ![] bcast_S_S16x4096x4096 (constant S_ .f32 0x00000000#32)))) down)

/-- The residual after the gated embedding of the layer's own input `p`, the gate read from the normed row `h`. -/
def gated (x h : FVec Ideal S16x4096x1024 .f32) (p : FVec Ideal S16x4096x256 .f32) (w : FVec Ideal S256x1024 .f32)
    (wg : FVec Ideal S1024x1024 .f32) : FVec Ideal S16x4096x1024 .f32 :=
  addf x (mulf (Host.divf (broadcastInDim S16x4096x1024 ![] bcast_S_S16x4096x1024 (constant S_ .f32 0x3F800000#32)) (addf (broadcastInDim S16x4096x1024 ![] bcast_S_S16x4096x1024 (constant S_ .f32 0x3F800000#32)) (Host.exp (Host.negf (Host.dotGeneral dot_S16x4096x1024_S1024x1024_S16x4096x1024_2_0_01_1_n_n none h wg))))) (Host.dotGeneral dot_S16x4096x256_S256x1024_S16x4096x1024_2_0_01_1_n_n none p w))

/-- The whole tail over three-axis arrays. -/
def tail3 (x : FVec Ideal S16x4096x1024 .f32) (fox ml : FVec Ideal S16x4096x512 .bf16) (p : FVec Ideal S16x4096x256 .f32)
    (wo : FVec Ideal S1024x1024 .f32) (gm : FVec Ideal S1024 .f32) (up : FVec Ideal S1024x4096 .f32)
    (down : FVec Ideal S4096x1024 .f32) (wp : FVec Ideal S256x1024 .f32) (gp : FVec Ideal S1024 .f32)
    (wg : FVec Ideal S1024x1024 .f32) (gf : FVec Ideal S1024 .f32) : FVec Ideal S16x4096x1024 .f32 :=
  normed (gated (fed (mixed x fox ml wo) (normed (mixed x fox ml wo) gm) up down)
    (normed (fed (mixed x fox ml wo) (normed (mixed x fox ml wo) gm) up down) gp) p wp wg) gf

variable (m : (ℓ : Loc nD τ sig) → Buf (Elt Ideal) ℓ)

/-- The reference's result is the tail of its arguments, with the two token axes merged. -/
theorem res_eq (c : Dev nD) : Value.res_out0 m c = shapeCast S65536x1024
    (tail3 (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9))
      (m ((c.tc : Thread nD τ).loc main_arg10)) (m ((c.tc : Thread nD τ).loc main_arg11)))
    shapeCasts_S16x4096x1024_S65536x1024 := by
  rfl

end Cert.TailRefIdeal.Rows

end
-- ==== Proof.TailRows.lean ====
module

public import proofs.«01_k».proof.Proof.Gen.TailIdeal.Skeleton
public import proofs.«01_k».proof.Proof.TailRefRows
public import Idealize.ShloMosaic.Lib.Pointwise

/-! One block of the tail kernel against the reference, a stage at a time: row `p` of the block computes what the
reference computes in token `s` of batch entry `b`, once the operands agree on that row. -/

@[expose] public section

set_option maxRecDepth 16384

noncomputable section

namespace Cert.TailIdeal.Rows

open Cert.TailIdeal Cert.TailIdeal.Gen Idealize.ShloMosaic Idealize.ShloMosaic.TcCoe Idealize.SL.Sem
open Cert.TailRefIdeal.Rows (mixed normed fed gated)

variable (p : Fin 512) (b : Fin 16) (s : Fin 4096)

/-- The residual after the mixing heads. -/
theorem mixed_eq (v0 v2 : FVec Ideal S512x512 .bf16) (v5 : FVec Ideal S512x1024 .f32) (v7 : FVec Ideal S1024x1024 .bf16)
    (x : FVec Ideal Cert.TailRefIdeal.S16x4096x1024 .f32) (fox ml : FVec Ideal Cert.TailRefIdeal.S16x4096x512 .bf16)
    (w : FVec Ideal S1024x1024 .f32)
    (h0 : ∀ k, v0 (ix2 p k) = fox (ix3 b s k)) (h2 : ∀ k, v2 (ix2 p k) = ml (ix3 b s k))
    (h5 : ∀ k, v5 (ix2 p k) = x (ix3 b s k)) (h7 : ∀ k q, v7 (ix2 k q) = w (ix2 k q)) (q : Fin 1024) :
    k0_pay2 (F := Ideal) v0 v2 v5 v7 (ix2 p q) = mixed x fox ml w (ix3 b s q) := by
  pointwise [k0_pay2, mixed, h0, h2, h5, h7]

/-- The first norm. -/
theorem normed_eq (v0 v2 : FVec Ideal S512x512 .bf16) (v5 : FVec Ideal S512x1024 .f32) (v7 : FVec Ideal S1024x1024 .bf16)
    (v11 : FVec Ideal S1x1024 .f32) (X : FVec Ideal Cert.TailRefIdeal.S16x4096x1024 .f32) (g : FVec Ideal Cert.TailRefIdeal.S1024 .f32)
    (hX : ∀ q, k0_pay2 (F := Ideal) v0 v2 v5 v7 (ix2 p q) = X (ix3 b s q)) (hg : ∀ q, v11 (ix2 0 q) = g (ix1 q)) (q : Fin 1024) :
    k0_pay3 (F := Ideal) v0 v2 v5 v7 v11 (ix2 p q) = normed X g (ix3 b s q) := by
  pointwise [k0_pay3, normed, hX, hg]

/-- The feed-forward layer: four chunks of the hidden axis one after another are its one sum. -/
theorem fed_eq (v0 v2 : FVec Ideal S512x512 .bf16) (v5 : FVec Ideal S512x1024 .f32) (v7 : FVec Ideal S1024x1024 .bf16)
    (v11 : FVec Ideal S1x1024 .f32) (u0 d0 u1 d1 u2 d2 u3 d3 : FVec Ideal S1024x1024 .bf16)
    (X H : FVec Ideal Cert.TailRefIdeal.S16x4096x1024 .f32) (up : FVec Ideal Cert.TailRefIdeal.S1024x4096 .f32)
    (down : FVec Ideal Cert.TailRefIdeal.S4096x1024 .f32)
    (hX : ∀ q, k0_pay2 (F := Ideal) v0 v2 v5 v7 (ix2 p q) = X (ix3 b s q))
    (hH : ∀ q, k0_pay3 (F := Ideal) v0 v2 v5 v7 v11 (ix2 p q) = H (ix3 b s q))
    (hu0 : ∀ k f : Fin 1024, u0 (ix2 k f) = up (ix2 k ⟨0 * 1024 + f.val, by omega⟩))
    (hu1 : ∀ k f : Fin 1024, u1 (ix2 k f) = up (ix2 k ⟨1 * 1024 + f.val, by omega⟩))
    (hu2 : ∀ k f : Fin 1024, u2 (ix2 k f) = up (ix2 k ⟨2 * 1024 + f.val, by omega⟩))
    (hu3 : ∀ k f : Fin 1024, u3 (ix2 k f) = up (ix2 k ⟨3 * 1024 + f.val, by omega⟩))
    (hd0 : ∀ f q : Fin 1024, d0 (ix2 f q) = down (ix2 ⟨0 * 1024 + f.val, by omega⟩ q))
    (hd1 : ∀ f q : Fin 1024, d1 (ix2 f q) = down (ix2 ⟨1 * 1024 + f.val, by omega⟩ q))
    (hd2 : ∀ f q : Fin 1024, d2 (ix2 f q) = down (ix2 ⟨2 * 1024 + f.val, by omega⟩ q))
    (hd3 : ∀ f q : Fin 1024, d3 (ix2 f q) = down (ix2 ⟨3 * 1024 + f.val, by omega⟩ q)) (q : Fin 1024) :
    k0_pay5 (F := Ideal) (k0_pay3 (F := Ideal) v0 v2 v5 v7 v11) (k0_pay4 v0 v2 v5 v7 v11 u0 d0) u1 d1 u2 d2 u3 d3 (ix2 p q)
      = fed X H up down (ix3 b s q) := by
  pointwise [k0_pay5, k0_pay4, fed, hX, hH, hu0, hu1, hu2, hu3, hd0, hd1, hd2, hd3]
  have h := Fin.sum_univ_tiles 4 1024 rfl (fun x : Fin 4096 => max (∑ k, H (ix3 b s k) * up (ix2 k x)) 0 *
    max (∑ k, H (ix3 b s k) * up (ix2 k x)) 0 * down (ix2 x q))
  rw [Fin.sum_univ_four] at h
  simp only [Fin.val_zero, Fin.val_one, Fin.val_two, Fin.isValue, zero_mul, zero_add, one_mul, Nat.reduceMul] at h
  refine Eq.trans ?_ (congrArg (X (ix3 b s q) + ·) h.symm)
  simp only [add_assoc]
  rfl

/-- The gated embedding and the last norm, without its gain. -/
theorem gated_eq (v69 : FVec Ideal S512x1024 .f32) (v71 : FVec Ideal S1x1024 .f32) (v73 : FVec Ideal S512 .f32)
    (v85 : FVec Ideal S1024x1024 .bf16) (v95 : FVec Ideal S512x256 .f32) (v98 : FVec Ideal S256x1024 .bf16) (v103 : FVec Ideal S1x1024 .f32)
    (X : FVec Ideal Cert.TailRefIdeal.S16x4096x1024 .f32) (gp gf : FVec Ideal Cert.TailRefIdeal.S1024 .f32)
    (P : FVec Ideal Cert.TailRefIdeal.S16x4096x256 .f32) (w : FVec Ideal Cert.TailRefIdeal.S256x1024 .f32)
    (wg : FVec Ideal Cert.TailRefIdeal.S1024x1024 .f32)
    (hX : ∀ q, v69 (ix2 p q) = X (ix3 b s q)) (hg : ∀ q, v71 (ix2 0 q) = gp (ix1 q))
    (hs : v73 (ix1 p) = ∑ q : Fin 1024, X (ix3 b s q) * X (ix3 b s q))
    (h85 : ∀ k q, v85 (ix2 k q) = wg (ix2 k q)) (h95 : ∀ k, v95 (ix2 p k) = P (ix3 b s k))
    (h98 : ∀ k q, v98 (ix2 k q) = w (ix2 k q)) (hf : ∀ q, v103 (ix2 0 q) = gf (ix1 q)) (q : Fin 1024) :
    k0_pay1 (k0_pay8 v69 v71 v73 v85 v95 v98) (k0_pay9 v103) (ix2 p q)
      = normed (gated X (normed X gp) P w wg) gf (ix3 b s q) := by
  pointwise [k0_pay1, k0_pay8, k0_pay9, normed, gated, hX, hg, hs, h85, h95, h98, hf]
  simp only [zero_sub]

end Cert.TailIdeal.Rows

end
-- ==== Proof.TailBlocks.lean ====
module

public import proofs.«01_k».proof.Proof.Gen.TailIdeal.Value
public import proofs.«01_k».proof.Proof.TailRows
public import Idealize.ShloMosaic.Lib.Pipeline.ValueKit
public import Idealize.ShloMosaic.Lib.Claim

/-! What the tail kernel's staged blocks hold: at grid point `t`, row `p` of a token block is token `512 t + p` of the
flattened arrays, and every weight is staged whole. -/

@[expose] public section

set_option maxRecDepth 16384

noncomputable section

namespace Cert.TailIdeal.Blocks

open Cert.TailIdeal Cert.TailIdeal.Gen Idealize.ShloMosaic Idealize.ShloMosaic.TcCoe Idealize.SL.Sem

variable (m : (ℓ : Loc nD τ sig) → Buf (Elt Ideal) ℓ) (c : Dev nD) (t : Fin cfg0.N)

/-- Every window's block index, in the grid point's number. -/
theorem idx : ∀ t : Fin cfg0.N, t.val < 128 ∧ win0_0.index t = ![t.val, 0] ∧ win0_1.index t = ![t.val, 0]
    ∧ win0_2.index t = ![t.val, 0] ∧ win0_3.index t = ![t.val, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![0, 0] ∧ win0_11.index t = ![0, 0] ∧ win0_12.index t = ![t.val, 0] :=
  (by decide +kernel : ∀ t : Fin grid0.N, _)

/-- The batch entry of row `p` of block `t`. -/
def bat (p : Fin 512) : Fin 16 := ⟨(t.val * 512 + p.val) / 4096, by have := (idx t).1; omega⟩

/-- The token of row `p` of block `t` in its batch entry. -/
def tok (p : Fin 512) : Fin 4096 := ⟨(t.val * 512 + p.val) % 4096, by omega⟩

/-- The residual's block. -/
theorem blk0 (p : Fin 512) (k : Fin 1024) : (show FVec Ideal S512x1024 .f32 from iblk m c 0 t) (ix2 p k)
    = (show FVec Ideal S16x4096x1024 .f32 from m ((c : Thread nD τ).loc main_arg0)) (ix3 (bat t p) (tok t p) k) := by
  blk_simp [iblk]
  entry_read
  pointwise
  unfold bat tok
  blk_ext [idx t]

/-- The attention branch's block. -/
theorem blk1 (p : Fin 512) (k : Fin 512) : (show FVec Ideal S512x512 .bf16 from iblk m c 1 t) (ix2 p k)
    = (show FVec Ideal S16x4096x512 .bf16 from m ((c : Thread nD τ).loc main_arg1)) (ix3 (bat t p) (tok t p) k) := by
  blk_simp [iblk]
  entry_read
  pointwise
  unfold bat tok
  blk_ext [idx t]

/-- The recurrent branch's block. -/
theorem blk2 (p : Fin 512) (k : Fin 512) : (show FVec Ideal S512x512 .bf16 from iblk m c 2 t) (ix2 p k)
    = (show FVec Ideal S16x4096x512 .bf16 from m ((c : Thread nD τ).loc main_arg2)) (ix3 (bat t p) (tok t p) k) := by
  blk_simp [iblk]
  entry_read
  pointwise
  unfold bat tok
  blk_ext [idx t]

/-- The per-layer input's block. -/
theorem blk3 (p : Fin 512) (k : Fin 256) : (show FVec Ideal S512x256 .f32 from iblk m c 3 t) (ix2 p k)
    = (show FVec Ideal S16x4096x256 .f32 from m ((c : Thread nD τ).loc main_arg3)) (ix3 (bat t p) (tok t p) k) := by
  blk_simp [iblk]
  entry_read
  pointwise
  unfold bat tok
  blk_ext [idx t]

/-- The output projection. -/
theorem blk4 (k : Fin 1024) (q : Fin 1024) : (show FVec Ideal S1024x1024 .bf16 from iblk m c 4 t) (ix2 k q)
    = (show FVec Ideal S1024x1024 .f32 from m ((c : Thread nD τ).loc main_arg4)) (ix2 k q) := by
  blk_simp [iblk]
  entry_read
  pointwise
  blk_ext [idx t]

/-- The up projection. -/
theorem blk5 (k : Fin 1024) (q : Fin 4096) : (show FVec Ideal S1024x4096 .bf16 from iblk m c 5 t) (ix2 k q)
    = (show FVec Ideal S1024x4096 .f32 from m ((c : Thread nD τ).loc main_arg6)) (ix2 k q) := by
  blk_simp [iblk]
  entry_read
  pointwise
  blk_ext [idx t]

/-- The down projection. -/
theorem blk6 (k : Fin 4096) (q : Fin 1024) : (show FVec Ideal S4096x1024 .bf16 from iblk m c 6 t) (ix2 k q)
    = (show FVec Ideal S4096x1024 .f32 from m ((c : Thread nD τ).loc main_arg7)) (ix2 k q) := by
  blk_simp [iblk]
  entry_read
  pointwise
  blk_ext [idx t]

/-- The gate's weight. -/
theorem blk7 (k : Fin 1024) (q : Fin 1024) : (show FVec Ideal S1024x1024 .bf16 from iblk m c 7 t) (ix2 k q)
    = (show FVec Ideal S1024x1024 .f32 from m ((c : Thread nD τ).loc main_arg10)) (ix2 k q) := by
  blk_simp [iblk]
  entry_read
  pointwise
  blk_ext [idx t]

/-- The per-layer input's weight. -/
theorem blk8 (k : Fin 256) (q : Fin 1024) : (show FVec Ideal S256x1024 .bf16 from iblk m c 8 t) (ix2 k q)
    = (show FVec Ideal S256x1024 .f32 from m ((c : Thread nD τ).loc main_arg8)) (ix2 k q) := by
  blk_simp [iblk]
  entry_read
  pointwise
  blk_ext [idx t]

/-- The first norm's gain. -/
theorem blk9 (q : Fin 1024) : (show FVec Ideal S1x1024 .f32 from iblk m c 9 t) (ix2 0 q)
    = (show FVec Ideal S1024 .f32 from m ((c : Thread nD τ).loc main_arg5)) (ix1 q) := by
  blk_simp [iblk]
  entry_read
  pointwise
  blk_ext [idx t]

/-- The second norm's gain. -/
theorem blk10 (q : Fin 1024) : (show FVec Ideal S1x1024 .f32 from iblk m c 10 t) (ix2 0 q)
    = (show FVec Ideal S1024 .f32 from m ((c : Thread nD τ).loc main_arg9)) (ix1 q) := by
  blk_simp [iblk]
  entry_read
  pointwise
  blk_ext [idx t]

/-- The last norm's gain. -/
theorem blk11 (q : Fin 1024) : (show FVec Ideal S1x1024 .f32 from iblk m c 11 t) (ix2 0 q)
    = (show FVec Ideal S1024 .f32 from m ((c : Thread nD τ).loc main_arg11)) (ix1 q) := by
  blk_simp [iblk]
  entry_read
  pointwise
  blk_ext [idx t]

end Cert.TailIdeal.Blocks

end
-- ==== Proof.TailValue.lean ====
module

public import proofs.«01_k».proof.Proof.TailBlocks

/-! The tail kernel's result array is the reference's, with the two token axes merged. -/

@[expose] public section

set_option maxRecDepth 16384

noncomputable section

namespace Cert.TailIdeal.Final

open Cert.TailIdeal Cert.TailIdeal.Gen Cert.TailIdeal.Blocks Idealize.ShloMosaic Idealize.ShloMosaic.TcCoe Idealize.SL.Sem
open Cert.TailRefIdeal.Rows (mixed normed fed gated tail3)

variable (m : (ℓ : Loc nD τ sig) → Buf (Elt Ideal) ℓ) (c : Dev nD)

/-- The reference's tail of the kernel's argument arrays. -/
abbrev tail : FVec Ideal S16x4096x1024 .f32 :=
  tail3 (m ((c.tc : Thread nD τ).loc main_arg0)) (m ((c.tc : Thread nD τ).loc main_arg1))
    (m ((c.tc : Thread nD τ).loc main_arg2)) (m ((c.tc : Thread nD τ).loc main_arg3))
    (m ((c.tc : Thread nD τ).loc main_arg4)) (m ((c.tc : Thread nD τ).loc main_arg5))
    (m ((c.tc : Thread nD τ).loc main_arg6)) (m ((c.tc : Thread nD τ).loc main_arg7))
    (m ((c.tc : Thread nD τ).loc main_arg8)) (m ((c.tc : Thread nD τ).loc main_arg9))
    (m ((c.tc : Thread nD τ).loc main_arg10)) (m ((c.tc : Thread nD τ).loc main_arg11))

/-- The result array after the run. -/
theorem final : (dats m 0 c).arrAt 12 (cfgs 0).N = shapeCast S65536x1024 (tail m c) shapeCasts_S16x4096x1024_S65536x1024 := by
  refine (dats m 0 c).arrAt_eq_of_covers 12 _ (by decide +kernel) fun t _ y => ?_
  blk_simp
  rw [after0_12]; frame_out
  idx_vars y
  have e : ((View.whole main_v12).slice (win0_12.rect t)).emb (ix2 y0 y1)
      = (ix2 ⟨t.val * 512 + y0.val, by have := (idx t).1; omega⟩ y1 : S65536x1024.Idx) := by blk_ext [idx t]
  rw [e]
  unfold k0_pay10 k0_pay11
  frame_out
  have hr : shapeCast S65536x1024 (tail m c) shapeCasts_S16x4096x1024_S65536x1024
      (ix2 ⟨t.val * 512 + y0.val, by have := (idx t).1; omega⟩ y1 : S65536x1024.Idx)
      = tail m c (ix3 (bat t y0) (tok t y0) y1) := by
    pointwise
    rfl
  rw [hr]
  have hx := Rows.mixed_eq y0 (bat t y0) (tok t y0) (iblk m c 1 t) (iblk m c 2 t) (iblk m c 0 t) (iblk m c 4 t)
    _ _ _ _ (blk1 m c t y0) (blk2 m c t y0) (blk0 m c t y0) (blk4 m c t)
  have hh := Rows.normed_eq y0 (bat t y0) (tok t y0) (iblk m c 1 t) (iblk m c 2 t) (iblk m c 0 t) (iblk m c 4 t)
    (iblk m c 9 t) _ _ hx (blk9 m c t)
  have hf := Rows.fed_eq y0 (bat t y0) (tok t y0) (iblk m c 1 t) (iblk m c 2 t) (iblk m c 0 t) (iblk m c 4 t)
    (iblk m c 9 t) (View.ld (iblk m c 5 t) r0_4) (View.ld (iblk m c 6 t) r0_5) (View.ld (iblk m c 5 t) r0_6)
    (View.ld (iblk m c 6 t) r0_7) (View.ld (iblk m c 5 t) r0_8) (View.ld (iblk m c 6 t) r0_9)
    (View.ld (iblk m c 5 t) r0_10) (View.ld (iblk m c 6 t) r0_11) _ _
    (m ((c.tc : Thread nD τ).loc main_arg6)) (m ((c.tc : Thread nD τ).loc main_arg7)) hx hh
    (by intro k f; refine Eq.trans ?_ (blk5 m c t _ _); unfold r0_4; pointwise)
    (by intro k f; refine Eq.trans ?_ (blk5 m c t _ _); unfold r0_6; pointwise)
    (by intro k f; refine Eq.trans ?_ (blk5 m c t _ _); unfold r0_8; pointwise)
    (by intro k f; refine Eq.trans ?_ (blk5 m c t _ _); unfold r0_10; pointwise)
    (by intro k f; refine Eq.trans ?_ (blk6 m c t _ _); unfold r0_5; pointwise)
    (by intro k f; refine Eq.trans ?_ (blk6 m c t _ _); unfold r0_7; pointwise)
    (by intro k f; refine Eq.trans ?_ (blk6 m c t _ _); unfold r0_9; pointwise)
    (by intro k f; refine Eq.trans ?_ (blk6 m c t _ _); unfold r0_11; pointwise)
  refine Rows.gated_eq y0 (bat t y0) (tok t y0) _ _ _ _ _ _ _ _ _ _ _ _ _ hf
    (fun q => ?_) ?_ (blk7 m c t) (blk3 m c t y0) (blk8 m c t) (blk11 m c t) y1
  · refine Eq.trans ?_ (blk10 m c t q); pointwise [k0_pay6]
  · pointwise [k0_pay7]
    exact Finset.sum_congr rfl fun q _ => congrArg₂ (fun a b : EReal => a * b) (hf q) (hf q)

end Cert.TailIdeal.Final

end
-- ==== Proof.TailClaims.lean ====
module

public import proofs.«01_k».proof.Defs
public import proofs.«01_k».proof.Proof.Gen.Tail.Frame
public import proofs.«01_k».proof.Proof.TailValue

/-! The claims about the layer's tail. -/

@[expose] public section

set_option maxRecDepth 16384

noncomputable section

namespace Cert.Proof.TailClaims

open Idealize.ShloMosaic Idealize.SL.Sem

theorem frame_p : Cert.quiescent_Tail := fun m ρ _ => Cert.Tail.Gen.frame m ρ
theorem frame_pi : Cert.quiescent_TailIdeal := fun m ρ _ => Cert.TailIdeal.Gen.frame m ρ
theorem frame_ri : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

theorem preserves : Cert.preserves_Tail_TailIdeal := trivial

/-- From agreeing arguments both end at the reference's tail of the kernel's arguments. -/
theorem algebraic : Cert.algebraic_TailIdeal_TailRefIdeal := by
  intro m g m' g' _ hagree
  refine ⟨_, Cert.TailIdeal.Value.run_blocks (F := Ideal) m g, ?_⟩
  refine (θ_run Cert.TailRefIdeal.defs _ _).mono (fun _ h c => ⟨(h c).1.trans ?_, (h c).2⟩)
    (Cert.TailRefIdeal.Value.run (F := Ideal) m' g')
  obtain ⟨h0, h1, h2, h3, h4, h5, h6, h7, h8, h9, h10, h11⟩ := hagree c
  refine (Cert.TailRefIdeal.Rows.res_eq m' c).trans ?_
  rw [h0, h1, h2, h3, h4, h5, h6, h7, h8, h9, h10, h11]
  exact (Cert.TailIdeal.Final.final m c).symm

end Cert.Proof.TailClaims

end
-- ==== Proof.InprojOpen.lean ====
module

public import proofs.«01_k».proof.Proof.Gen.InprojIdeal.Value
public import Idealize.ShloMosaic.Lib.Pointwise
public import Idealize.ShloMosaic.Lib.Pipeline.ValueKit
public import Idealize.ShloMosaic.Lib.Claim

/-! What one point of the projection kernel leaves in its six output blocks and in the running sum it carries, as its
    payloads of the blocks it reads and of the running sum it starts from. -/

@[expose] public section

set_option maxRecDepth 16384

noncomputable section

namespace Cert.InprojIdeal.Open

open Cert.InprojIdeal Cert.InprojIdeal.Gen Idealize.ShloMosaic Idealize.ShloMosaic.TcCoe Idealize.SL.Sem

variable (m : (ℓ : Loc nD τ sig) → Buf (Elt Ideal) ℓ) (c : Dev nD) (t : Fin cfg0.N)

/-- The running sum a point starts from: zero at the first point of a batch entry, what the point before left otherwise. -/
def carry : FVec Ideal S1x128 .f32 :=
  if t.val % 8 = 0 then k0_pay2 (F := Ideal)
  else (outsAt0 m c (t.val - 1) (Nat.lt_of_le_of_lt (Nat.sub_le _ _) t.isLt)).2.2.2.2.2.2

theorem carry_A (h : t.val % 8 = 0) : carry m c t = k0_pay2 (F := Ideal) := if_pos h
theorem carry_B (h : ¬t.val % 8 = 0) : carry m c t
    = (outsAt0 m c (t.val - 1) (Nat.lt_of_le_of_lt (Nat.sub_le _ _) t.isLt)).2.2.2.2.2.2 := if_neg h

/-- The normed rows, as the products take them. -/
abbrev normed : FVec Ideal S512x1024 .bf16 := k0_pay3 (iblk m c 0 t) (iblk m c 1 t)
/-- Their product with the natural weights. -/
abbrev prod : FVec Ideal S512x2688 .f32 := k0_pay4 (iblk m c 0 t) (iblk m c 1 t) (iblk m c 2 t)
/-- The gates' logits. -/
abbrev gates : FVec Ideal S512x128 .f32 := k0_pay9 (prod m c t) (iblk m c 4 t)
/-- The running sums within the block, of the three summands of the log forget gates. -/
abbrev sums3 : FVec Ideal S512x384 .f32 := k0_pay10 (prod m c t) (iblk m c 4 t) (iblk m c 5 t)
/-- The first of the three. -/
abbrev sums1 : FVec Ideal S512x128 .f32 := k0_pay11 (prod m c t) (iblk m c 4 t) (iblk m c 5 t)

/-- The attention keys. -/
theorem out7 : (outsAt0 m c t.val t.isLt).1 = k0_pay5 (iblk m c 0 t) (iblk m c 1 t) (iblk m c 2 t) := by
  by_cases h : t.val % 8 = 0
  · rw [outsAt0_A m c t h]
    frame_out
  · rw [outsAt0_B m c t h]
    frame_out

/-- The recurrence's four projections. -/
theorem out8 : (outsAt0 m c t.val t.isLt).2.1 = k0_pay6 (iblk m c 0 t) (iblk m c 1 t) (iblk m c 2 t) := by
  by_cases h : t.val % 8 = 0
  · rw [outsAt0_A m c t h]
    frame_out
  · rw [outsAt0_B m c t h]
    frame_out

/-- The gate block. -/
theorem out10 : (outsAt0 m c t.val t.isLt).2.2.2.1 = k0_pay16 (gates m c t) (sums3 m c t) (sums1 m c t) (carry m c t) := by
  by_cases h : t.val % 8 = 0
  · rw [outsAt0_A m c t h, carry_A m c t h]
    frame_out
  · rw [outsAt0_B m c t h, carry_B m c t h]
    frame_out
    exact congrArg (k0_pay16 (gates m c t) (sums3 m c t) (sums1 m c t)) ((Memref.isWhole_whole cc0_scratch0).read_unread _)

/-- The gate block, transposed. -/
theorem out11 : (outsAt0 m c t.val t.isLt).2.2.2.2.1 = k0_pay17 (gates m c t) (sums3 m c t) (sums1 m c t) (carry m c t) := by
  by_cases h : t.val % 8 = 0
  · rw [outsAt0_A m c t h, carry_A m c t h]
    frame_out
  · rw [outsAt0_B m c t h, carry_B m c t h]
    frame_out
    exact congrArg (k0_pay17 (gates m c t) (sums3 m c t) (sums1 m c t)) ((Memref.isWhole_whole cc0_scratch0).read_unread _)

/-- The decay block. -/
theorem out12 : (outsAt0 m c t.val t.isLt).2.2.2.2.2.1 = k0_pay1 (k0_pay13 (sums3 m c t) (sums1 m c t) (carry m c t)) (iblk m c 6 t) := by
  by_cases h : t.val % 8 = 0
  · rw [outsAt0_A m c t h, carry_A m c t h]
    frame_out
  · rw [outsAt0_B m c t h, carry_B m c t h]
    frame_out
    exact congrArg (fun x => k0_pay1 (k0_pay13 (sums3 m c t) (sums1 m c t) x) (iblk m c 6 t)) ((Memref.isWhole_whole cc0_scratch0).read_unread _)

/-- The running sum it leaves. -/
theorem out_carry : (outsAt0 m c t.val t.isLt).2.2.2.2.2.2 = k0_pay14 (sums3 m c t) (sums1 m c t) (carry m c t) := by
  by_cases h : t.val % 8 = 0
  · rw [outsAt0_A m c t h, carry_A m c t h]
    frame_out
  · rw [outsAt0_B m c t h, carry_B m c t h]
    frame_out
    exact congrArg (k0_pay14 (sums3 m c t) (sums1 m c t)) ((Memref.isWhole_whole cc0_scratch0).read_unread _)

end Cert.InprojIdeal.Open

end
-- ==== Proof.InprojMath.lean ====
module

public import Idealize.ShloMosaic.Lib.Pointwise
public import Idealize.ShloMosaic.Lib.Claim

/-! Running sums, as the host writes them and as sums over the rows before; and the log of the logistic function. -/

@[expose] public section

set_option maxRecDepth 16384

noncomputable section

namespace Cert.InprojMath

open Idealize.ShloMosaic

/-! ## Running sums -/

theorem foldl_add {ι : Type} (l : List ι) (g : ι → EReal) (v : EReal) :
    l.foldl (fun r n => r + g n) v = v + (l.map g).sum := by
  induction l generalizing v with
  | nil => simp
  | cons a l ih => rw [List.foldl_cons, ih, List.map_cons, List.sum_cons, add_assoc]

/-- A window of `N` rows that ends at row `j`, the rows before the first being zero, sums the rows up to `j`. -/
theorem window_sum {N : ℕ} (y : Fin N → EReal) (j : Fin N) :
    (∑ w : Fin N, if h : N - 1 ≤ j.val + w.val ∧ j.val + w.val - (N - 1) < N then y ⟨j.val + w.val - (N - 1), h.2⟩ else 0)
      = ∑ u : Fin N, if u.val ≤ j.val then y u else 0 := by
  have hj := j.isLt
  have e : ∀ w : Fin N, (if h : N - 1 ≤ j.val + w.val ∧ j.val + w.val - (N - 1) < N then y ⟨j.val + w.val - (N - 1), h.2⟩ else 0)
      = if N - 1 ≤ j.val + w.val then y ⟨(j.val + w.val - (N - 1)) % N, Nat.mod_lt _ (by omega)⟩ else 0 := fun w => by
    have hw := w.isLt
    by_cases h : N - 1 ≤ j.val + w.val
    · rw [dif_pos ⟨h, by omega⟩, if_pos h]
      congr 1
      exact Fin.ext (Nat.mod_eq_of_lt (by omega)).symm
    · rw [dif_neg fun q => h q.1, if_neg h]
  rw [Finset.sum_congr rfl fun w _ => e w, ← Finset.sum_filter, ← Finset.sum_filter]
  refine Finset.sum_bij' (fun w _ => ⟨(j.val + w.val - (N - 1)) % N, Nat.mod_lt _ (by omega)⟩)
    (fun u _ => ⟨(N - 1 + u.val - j.val) % N, Nat.mod_lt _ (by omega)⟩) ?_ ?_ ?_ ?_ ?_
  · intro w hw
    have hw' := w.isLt
    rw [Finset.mem_filter] at hw ⊢
    refine ⟨Finset.mem_univ _, ?_⟩
    show (j.val + w.val - (N - 1)) % N ≤ j.val
    rw [Nat.mod_eq_of_lt (by omega)]
    omega
  · intro u hu
    have hu' := u.isLt
    rw [Finset.mem_filter] at hu ⊢
    refine ⟨Finset.mem_univ _, ?_⟩
    show N - 1 ≤ j.val + (N - 1 + u.val - j.val) % N
    rw [Nat.mod_eq_of_lt (by omega)]
    omega
  · intro w hw
    have hw' := w.isLt
    rw [Finset.mem_filter] at hw
    refine Fin.ext ?_
    show (N - 1 + (j.val + w.val - (N - 1)) % N - j.val) % N = w.val
    rw [Nat.mod_eq_of_lt (a := j.val + w.val - (N - 1)) (by omega), Nat.mod_eq_of_lt (by omega)]
    omega
  · intro u hu
    have hu' := u.isLt
    rw [Finset.mem_filter] at hu
    refine Fin.ext ?_
    show (j.val + (N - 1 + u.val - j.val) % N - (N - 1)) % N = u.val
    rw [Nat.mod_eq_of_lt (a := N - 1 + u.val - j.val) (by omega), Nat.mod_eq_of_lt (by omega)]
    omega
  · intro w hw
    rfl

/-- The running sum along the middle axis of three, entry by entry. -/
theorem cumsum3 {A N C M : ℕ} (hM : M = N - 1) (x : (⟨3, ![A, N, C]⟩ : Shape).Idx → EReal) (v : EReal) (hv : v = 0)
    (h : (⟨3, ![A, N, C]⟩ : Shape).ReduceWindows (![1, N, 1] : Fin 3 → ℕ) ![1, 1, 1] ![0, M, 0] ![0, 0, 0] ⟨3, ![A, N, C]⟩)
    (a : Fin A) (j : Fin N) (c : Fin C) :
    Ideal.hostReduceWindowAdd (![1, N, 1] : Fin 3 → ℕ) ![1, 1, 1] ![0, M, 0] ![0, 0, 0] h x v (ix3 a j c)
      = ∑ u : Fin N, if u.val ≤ j.val then x (ix3 a u c) else 0 := by
  subst hM hv
  rw [← window_sum (fun u => x (ix3 a u c)) j]
  unfold Ideal.hostReduceWindowAdd Host.reduceWindow
  refine (foldl_add _ _ _).trans ?_
  rw [zero_add, ← Fin.sum_univ_def]
  symm
  refine Fintype.sum_bijective (fun w : Fin N => (⟨3, ![1, N, 1]⟩ : Shape).rowMajor (ix3 0 w 0)) ⟨?_, ?_⟩ _ _ ?_
  · intro w w' e
    exact congrFun ((⟨3, ![1, N, 1]⟩ : Shape).rowMajor.injective e) 1
  · intro n
    refine ⟨(⟨3, ![1, N, 1]⟩ : Shape).rowMajor.symm n 1, ?_⟩
    rw [← Equiv.eq_symm_apply]
    funext k
    match k with
    | ⟨0, _⟩ => exact Subsingleton.elim (α := Fin 1) _ _
    | ⟨1, _⟩ => rfl
    | ⟨2, _⟩ => exact Subsingleton.elim (α := Fin 1) _ _
  · intro w
    dsimp only
    simp only [Equiv.symm_apply_apply]
    have hj := j.isLt
    by_cases q : N - 1 ≤ j.val + w.val ∧ j.val + w.val - (N - 1) < N
    · rw [dif_pos q, dif_pos (fun k => by
        match k with
        | ⟨0, _⟩ => exact ⟨Nat.zero_le _, by show a.val * 1 + 0 - 0 < A; omega⟩
        | ⟨1, _⟩ => exact ⟨by show N - 1 ≤ j.val * 1 + w.val; omega, by show j.val * 1 + w.val - (N - 1) < N; omega⟩
        | ⟨2, _⟩ => exact ⟨Nat.zero_le _, by show c.val * 1 + 0 - 0 < C; omega⟩)]
      congr 1
      funext k
      match k with
      | ⟨0, _⟩ => exact Fin.ext (by show a.val = a.val * 1 + 0 - 0; omega)
      | ⟨1, _⟩ => exact Fin.ext (by show j.val + w.val - (N - 1) = j.val * 1 + w.val - (N - 1); omega)
      | ⟨2, _⟩ => exact Fin.ext (by show c.val = c.val * 1 + 0 - 0; omega)
    · rw [dif_neg q, dif_neg fun p => q ?_]
      have p1 := p 1
      change N - 1 ≤ j.val * 1 + w.val ∧ j.val * 1 + w.val - (N - 1) < N at p1
      omega

/-- The running sum along the third axis of four. -/
theorem cumsum4 {A B N C M : ℕ} (hM : M = N - 1) (x : (⟨4, ![A, B, N, C]⟩ : Shape).Idx → EReal) (v : EReal) (hv : v = 0)
    (h : (⟨4, ![A, B, N, C]⟩ : Shape).ReduceWindows (![1, 1, N, 1] : Fin 4 → ℕ) ![1, 1, 1, 1] ![0, 0, M, 0] ![0, 0, 0, 0] ⟨4, ![A, B, N, C]⟩)
    (a : Fin A) (b : Fin B) (j : Fin N) (c : Fin C) :
    Ideal.hostReduceWindowAdd (![1, 1, N, 1] : Fin 4 → ℕ) ![1, 1, 1, 1] ![0, 0, M, 0] ![0, 0, 0, 0] h x v (ix4 a b j c)
      = ∑ u : Fin N, if u.val ≤ j.val then x (ix4 a b u c) else 0 := by
  subst hM hv
  rw [← window_sum (fun u => x (ix4 a b u c)) j]
  unfold Ideal.hostReduceWindowAdd Host.reduceWindow
  refine (foldl_add _ _ _).trans ?_
  rw [zero_add, ← Fin.sum_univ_def]
  symm
  refine Fintype.sum_bijective (fun w : Fin N => (⟨4, ![1, 1, N, 1]⟩ : Shape).rowMajor (ix4 0 0 w 0)) ⟨?_, ?_⟩ _ _ ?_
  · intro w w' e
    exact congrFun ((⟨4, ![1, 1, N, 1]⟩ : Shape).rowMajor.injective e) 2
  · intro n
    refine ⟨(⟨4, ![1, 1, N, 1]⟩ : Shape).rowMajor.symm n 2, ?_⟩
    rw [← Equiv.eq_symm_apply]
    funext k
    match k with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _
  · intro w
    dsimp only
    simp only [Equiv.symm_apply_apply]
    have hj := j.isLt
    by_cases q : N - 1 ≤ j.val + w.val ∧ j.val + w.val - (N - 1) < N
    · rw [dif_pos q, dif_pos (fun k => by
        match k with
        | ⟨0, _⟩ => exact ⟨Nat.zero_le _, by show a.val * 1 + 0 - 0 < A; omega⟩
        | ⟨1, _⟩ => exact ⟨Nat.zero_le _, by show b.val * 1 + 0 - 0 < B; omega⟩
        | ⟨2, _⟩ => exact ⟨by show N - 1 ≤ j.val * 1 + w.val; omega, by show j.val * 1 + w.val - (N - 1) < N; omega⟩
        | ⟨3, _⟩ => exact ⟨Nat.zero_le _, by show c.val * 1 + 0 - 0 < C; omega⟩)]
      congr 1
      funext k
      match k with
      | ⟨0, _⟩ => exact Fin.ext (by show a.val = a.val * 1 + 0 - 0; omega)
      | ⟨1, _⟩ => exact Fin.ext (by show b.val = b.val * 1 + 0 - 0; omega)
      | ⟨2, _⟩ => exact Fin.ext (by show j.val + w.val - (N - 1) = j.val * 1 + w.val - (N - 1); omega)
      | ⟨3, _⟩ => exact Fin.ext (by show c.val = c.val * 1 + 0 - 0; omega)
    · rw [dif_neg q, dif_neg fun p => q ?_]
      have p1 := p 2
      change N - 1 ≤ j.val * 1 + w.val ∧ j.val * 1 + w.val - (N - 1) < N at p1
      omega

/-- The rows before row `k * n + p`, tile by tile: those of the tiles before, and the first ones of its own. -/
theorem sum_split {K n : ℕ} (f : ℕ → ℝ) (k : ℕ) (p : ℕ) :
    (∑ u ∈ Finset.range (k * n + p), f u) = (∑ u ∈ Finset.range (k * n), f u) + ∑ u ∈ Finset.range p, f (k * n + u) := by
  rw [Finset.sum_range_add]

/-! ## The log of the logistic function -/

/-- At a real number, as a real. -/
def logsig (r : ℝ) : ℝ := min r 0 - Real.log (1 + Real.exp (-|r|))

theorem pos (r : ℝ) : 0 < 1 + Real.exp (-|r|) := by positivity

theorem abs_coe (r : ℝ) : FloatOps.absf (F := Ideal) (φ := .f32) (r : EReal) = ((|r| : ℝ) : EReal) :=
  (EReal.coe_strictMono.monotone.map_max (a := r) (b := -r)).symm

theorem log1p_exp (r : ℝ) : Ideal.log1p (Ideal.exp ((-|r| : ℝ) : EReal)) = ((Real.log (1 + Real.exp (-|r|)) : ℝ) : EReal) := by
  have h : Ideal.exp ((-|r| : ℝ) : EReal) = ((Real.exp (-|r|) : ℝ) : EReal) := rfl
  rw [h]
  unfold Ideal.log1p
  have h1 : (1 : EReal) + ((Real.exp (-|r|) : ℝ) : EReal) = ((1 + Real.exp (-|r|) : ℝ) : EReal) := by
    rw [EReal.coe_add]; rfl
  rw [h1, Ideal.log_coe, if_neg (not_le.2 (pos r))]

/-! ## Integers as floats -/

theorem pad_zero : FloatOps.sitofp (F := Ideal) FTy.f32 (0#32) = 0 := by
  show (((0#32 : BitVec 32).toInt : ℝ) : EReal) = 0
  simp

theorem bit_one : FloatOps.uitofp (F := Ideal) FTy.bf16 (1#1) = 1 := by
  show (((1#1 : BitVec 1).toNat : ℝ) : EReal) = 1
  simp

theorem bit_zero : FloatOps.uitofp (F := Ideal) FTy.bf16 (0#1) = 0 := by
  show (((0#1 : BitVec 1).toNat : ℝ) : EReal) = 0
  simp

/-! ## Sums of reals, and the log of the logistic function as the two programs write it -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_ite_real {N : ℕ} (f : Fin N → EReal) (r : Fin N → ℝ) (h : ∀ u, f u = r u) (p : Fin N → Prop) [DecidablePred p] :
    (∑ u, if p u then f u else 0) = ((∑ u, if p u then r u else 0 : ℝ) : EReal) := by
  rw [coe_sum]
  refine Finset.sum_congr rfl fun u _ => ?_
  by_cases q : p u
  · rw [if_pos q, if_pos q, h]
  · rw [if_neg q, if_neg q]; rfl

theorem div_log2 (x : EReal) : Ideal.div x ((Real.log 2 : ℝ) : EReal) = x * (((Real.log 2)⁻¹ : ℝ) : EReal) := by
  rw [Ideal.div_coe (Real.log_pos one_lt_two).ne', one_div]

theorem max_zero (r : ℝ) : max ((-r : ℝ) : EReal) 0 = ((-min r 0 : ℝ) : EReal) := by
  rcases le_total r 0 with h | h
  · rw [min_eq_left h, max_eq_left]
    exact_mod_cast (by linarith : (0 : ℝ) ≤ -r)
  · rw [min_eq_right h, max_eq_right, neg_zero]
    · rfl
    · exact_mod_cast (by linarith : -r ≤ (0 : ℝ))

theorem min_zero (r : ℝ) : min (r : EReal) 0 = ((min r 0 : ℝ) : EReal) := by
  rcases le_total r 0 with h | h
  · rw [min_eq_left h, min_eq_left]
    exact_mod_cast h
  · rw [min_eq_right h, min_eq_right]
    · rfl
    · exact_mod_cast h

/-- As the reference writes it. -/
theorem logsig_ref (r : ℝ) (d : EReal) (hd : d = (((-r : ℝ)) : EReal)) :
    -(max d 0 + Ideal.log1p (Ideal.exp (-(FloatOps.absf (F := Ideal) (φ := .f32) d)))) = ((logsig r : ℝ) : EReal) := by
  subst hd
  rw [abs_coe, abs_neg, ← EReal.coe_neg, log1p_exp, max_zero, ← EReal.coe_add, ← EReal.coe_neg]
  congr 1
  unfold logsig
  ring

/-- As the kernel writes it. -/
theorem logsig_kernel (r : ℝ) :
    min (r : EReal) 0 - Ideal.log1p (Ideal.exp (0 - (FloatOps.absf (F := Ideal) (φ := .f32) (r : EReal)))) = ((logsig r : ℝ) : EReal) := by
  rw [abs_coe, zero_sub, ← EReal.coe_neg, log1p_exp, min_zero, ← EReal.coe_sub]
  rfl

/-! ## Running sums over the naturals -/

theorem sum_le {N n : ℕ} (hn : n < N) (f : ℕ → ℝ) :
    (∑ u : Fin N, if u.val ≤ n then f u.val else 0) = ∑ u ∈ Finset.range (n + 1), f u := by
  rw [Fin.sum_univ_eq_sum_range (fun u => if u ≤ n then f u else 0) N, ← Finset.sum_filter]
  refine Finset.sum_congr (Finset.ext fun u => ?_) fun _ _ => rfl
  rw [Finset.mem_filter, Finset.mem_range, Finset.mem_range]
  omega

/-- The rows of a chunk up to `p`, as a difference of running sums. -/
theorem sum_chunk (f : ℕ → ℝ) (a p : ℕ) (h : a ≤ p) :
    (∑ u ∈ Finset.range (p + 1), f u) - ∑ u ∈ Finset.range a, f u = ∑ u ∈ Finset.range (p - a + 1), f (a + u) := by
  have e : p + 1 = a + (p - a + 1) := by omega
  rw [e, Finset.sum_range_add, add_sub_cancel_left]

end Cert.InprojMath

end
-- ==== Proof.InprojWords.lean ====
module

public import Idealize.ShloMosaic.Lib.Pointwise
public import proofs.«01_k».proof.Proof.FoxWords
public import proofs.«01_k».proof.Proof.InprojMath

/-! The integer arithmetic of the triangle and of the placement, and the column cases of the joined weights. -/

@[expose] public section

set_option maxRecDepth 16384

noncomputable section

namespace Cert.InprojWords

open Idealize.ShloMosaic

/-- The remainder that rounds down, as words compute it. -/
def safe (d : BitVec 32) : BitVec 32 := Scalar.select (IntOp.cmpi .eq d 0#32) 1#32 d
def remw (x d : BitVec 32) : BitVec 32 :=
  Scalar.select
    (IntOp.andi
      (IntOp.cmpi .ne (IntOp.cmpi .slt (IntOp.remsi .host x (safe d)) 0#32) (IntOp.cmpi .slt (safe d) 0#32))
      (IntOp.cmpi .ne (IntOp.remsi .host x (safe d)) 0#32))
    (IntOp.addi (IntOp.remsi .host x (safe d)) (safe d))
    (IntOp.remsi .host x (safe d))

/-- The quotient that rounds down. -/
def sign (x : BitVec 32) : BitVec 32 := if x = 0 then 0 else if x.msb = true then -1 else 1
def quow (x d : BitVec 32) : BitVec 32 :=
  Scalar.select
    (IntOp.andi (IntOp.cmpi .ne (sign x) (sign d)) (IntOp.cmpi .ne (IntOp.remsi .host x d) 0#32))
    (IntOp.subi (IntOp.divsi .host x d) 1#32) (IntOp.divsi .host x d)

theorem remw_eq : ∀ i : Fin 384, remw (BitVec.ofNat 32 i.val) 128#32 = BitVec.ofNat 32 (i.val % 128) := by decide +kernel
theorem quow_eq : ∀ i : Fin 384, quow (BitVec.ofNat 32 i.val) 128#32 = BitVec.ofNat 32 (i.val / 128) := by decide +kernel

theorem ofNat_inj (a b : ℕ) (ha : a < 2147483648) (hb : b < 2147483648) : BitVec.ofNat 32 a = BitVec.ofNat 32 b ↔ a = b := by
  constructor
  · intro h
    have := congrArg BitVec.toNat h
    rw [BitVec.toNat_ofNat, BitVec.toNat_ofNat] at this
    omega
  · rintro rfl; rfl

theorem place_bit (a b j : ℕ) (ha : a < 128) (hb : b < 3) (hj : j < 128) :
    IntOp.andi (IntOp.cmpi .slt (BitVec.ofNat 32 a) 8#32)
        (IntOp.cmpi .eq (BitVec.ofNat 32 j) (IntOp.addi (IntOp.muli 3#32 (BitVec.ofNat 32 a)) (BitVec.ofNat 32 b)))
      = if a < 8 ∧ j = 3 * a + b then 1#1 else 0#1 := by
  have e : IntOp.addi (IntOp.muli 3#32 (BitVec.ofNat 32 a)) (BitVec.ofNat 32 b) = BitVec.ofNat 32 (3 * a + b) := by
    show 3#32 * BitVec.ofNat 32 a + BitVec.ofNat 32 b = _
    rw [BitVec.ofNat_add, BitVec.ofNat_mul]
  have e1 : IntOp.cmpi .slt (BitVec.ofNat 32 a) 8#32 = if a < 8 then 1#1 else 0#1 := by
    have h8 : (8#32 : BitVec 32).toInt = 8 := by decide
    by_cases h : a < 8
    · have : (a : ℤ) < 8 := by omega
      simp [IntOp.cmpi, BitVec.slt, Cert.FoxWords.toInt_small a (by omega), h8, h, this]
    · have : ¬ (a : ℤ) < 8 := by omega
      simp [IntOp.cmpi, BitVec.slt, Cert.FoxWords.toInt_small a (by omega), h8, h, this]
  have e2 : IntOp.cmpi .eq (BitVec.ofNat 32 j) (BitVec.ofNat 32 (3 * a + b)) = if j = 3 * a + b then 1#1 else 0#1 := by
    by_cases h : j = 3 * a + b
    · rw [if_pos h, h]; simp [IntOp.cmpi]
    · rw [if_neg h]
      have : ¬ BitVec.ofNat 32 j = BitVec.ofNat 32 (3 * a + b) := fun q => h ((ofNat_inj _ _ (by omega) (by omega)).1 q)
      show BitVec.ofBool (BitVec.ofNat 32 j == BitVec.ofNat 32 (3 * a + b)) = 0#1
      rw [beq_eq_false_iff_ne.2 this]; rfl
  rw [e, e1, e2]
  by_cases h : a < 8 <;> by_cases h' : j = 3 * a + b
  · rw [if_pos h, if_pos h', if_pos ⟨h, h'⟩]; rfl
  · rw [if_pos h, if_neg h', if_neg (fun q => h' q.2)]; rfl
  · rw [if_neg h, if_pos h', if_neg (fun q => h q.1)]; rfl
  · rw [if_neg h, if_neg h', if_neg (fun q => h q.1)]; rfl

theorem tri_bit (p q : ℕ) (hp : p < 512) (hq : q < 512) :
    IntOp.cmpi .sge (BitVec.ofNat 32 p) (BitVec.ofNat 32 q) = if q ≤ p then 1#1 else 0#1 := by
  by_cases h : q ≤ p <;>
    simp [IntOp.cmpi, BitVec.sle, Cert.FoxWords.toInt_small q (by omega), Cert.FoxWords.toInt_small p (by omega), h]

theorem uitofp_ite (p : Prop) [Decidable p] :
    FloatOps.uitofp (F := Ideal) .bf16 (if p then 1#1 else 0#1) = if p then 1 else 0 := by
  by_cases h : p
  · rw [if_pos h, if_pos h]; exact Cert.InprojMath.bit_one
  · rw [if_neg h, if_neg h]; exact Cert.InprojMath.bit_zero

/-- The joined weights' column `q` among the given weights' columns. -/
theorem cols (f : Fin 3600 → EReal) (z : EReal) (q : ℕ) (hq : q < 2688) :
    (if h : q < 512 then f ⟨512 + q, by omega⟩
      else if h : q - 512 < 512 then f ⟨1544 + (q - 512), by omega⟩
      else if h : q - 512 - 512 < 512 then f ⟨2056 + (q - 512 - 512), by omega⟩
      else if h : q - 512 - 512 - 512 < 512 then f ⟨2568 + (q - 512 - 512 - 512), by omega⟩
      else if h : q - 512 - 512 - 512 - 512 < 512 then f ⟨3088 + (q - 512 - 512 - 512 - 512), by omega⟩
      else if h : q - 512 - 512 - 512 - 512 - 512 < 16 then
        (if h : q - 512 - 512 - 512 - 512 - 512 < 8 then f ⟨1536 + (q - 512 - 512 - 512 - 512 - 512), by omega⟩
          else if h : q - 512 - 512 - 512 - 512 - 512 - 8 < 4 then f ⟨3080 + (q - 512 - 512 - 512 - 512 - 512 - 8), by omega⟩
          else f ⟨3084 + (q - 512 - 512 - 512 - 512 - 512 - 8 - 4), by omega⟩)
      else z)
    = if h : q < 2576 then f ⟨if q < 512 then 512 + q else if q < 2048 then 1032 + q else if q < 2560 then 1040 + q
        else if q < 2568 then q - 1024 else 512 + q, by split_ifs <;> omega⟩ else z := by
  have key : ∀ a b : Fin 3600, a.val = b.val → f a = f b := fun a b h => congrArg f (Fin.ext h)
  by_cases g : q < 2576
  · rw [dif_pos g]
    split_ifs <;> first | omega | (refine key _ _ ?_; dsimp only; try omega)
  · rw [dif_neg g]
    split_ifs <;> first | omega | rfl

end Cert.InprojWords

end
-- ==== Proof.InprojBlocks.lean ====
module

public import proofs.«01_k».proof.Proof.InprojWords
public import proofs.«01_k».proof.Proof.Gen.InprojIdeal.Value
public import Idealize.ShloMosaic.Lib.Pointwise
public import Idealize.ShloMosaic.Lib.Pipeline.ValueKit
public import Idealize.ShloMosaic.Lib.Claim

/-! What the projection kernel's blocks hold, in the launch's arguments. -/

@[expose] public section

set_option maxRecDepth 16384

noncomputable section

namespace Cert.InprojIdeal.Blocks

open Cert.InprojIdeal Cert.InprojIdeal.Gen Idealize.ShloMosaic Idealize.ShloMosaic.TcCoe Idealize.SL.Sem

variable (m : (ℓ : Loc nD τ sig) → Buf (Elt Ideal) ℓ) (c : Dev nD) (t : Fin cfg0.N)

/-- Every window's block index, in the grid point's number. -/
theorem idx : ∀ t : Fin cfg0.N, t.val < 128 ∧ win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] ∧ win0_8.index t = ![t.val / 8, t.val % 8, 0]
    ∧ win0_9.index t = ![t.val / 8, 0, t.val % 8] ∧ win0_10.index t = ![t.val / 8, t.val % 8, 0]
    ∧ win0_11.index t = ![t.val / 8, 0, t.val % 8] ∧ win0_12.index t = ![t.val / 8, t.val % 8, 0] :=
  (by decide +kernel : ∀ t : Fin grid0.N, _)

/-- The batch entry, and the token of row `p`. -/
def bat : Fin 16 := ⟨t.val / 8, by have := (idx t).1; omega⟩
def tok (p : Fin 512) : Fin 4096 := ⟨512 * (t.val % 8) + p.val, by omega⟩

abbrev wIn : FVec Ideal S1024x3600 .f32 := m ((c : Thread nD τ).loc main_arg1)

set_option maxHeartbeats 800000 in
/-- The natural weights' column `q` is one of the given weights' columns, and zero past the gates. -/
theorem nat (k : Fin 1024) (q : Fin 2688) : (show FVec Ideal S1024x2688 .bf16 from V m c main_v13) (ix2 k q)
    = if h : q.val < 2576 then wIn m c (ix2 k ⟨if q.val < 512 then 512 + q.val else if q.val < 2048 then 1032 + q.val
        else if q.val < 2560 then 1040 + q.val else if q.val < 2568 then q.val - 1024 else 512 + q.val, by split_ifs <;> omega⟩)
      else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise
  after_results_simp <;> (try dsimp only [Matrix.cons_val]) <;> (try after_results_simp)
  pointwise
  after_results_simp <;> (try dsimp only [Matrix.cons_val]) <;> (try after_results_simp)
  pointwise
  refine (Cert.InprojWords.cols (fun i => wIn m c (ix2 k i)) (FloatOps.sitofp (F := Ideal) FTy.f32 0#32) q.val q.isLt).trans ?_
  by_cases g : q.val < 2576
  · rw [dif_pos g, dif_pos g]
  · rw [dif_neg g, dif_neg g]
    exact Cert.InprojMath.pad_zero

/-- The transposed weights are the queries' and the values'. -/
theorem trans (e : Fin 1024) (k : Fin 1024) : (show FVec Ideal S1024x1024 .bf16 from V m c main_v16) (ix2 e k)
    = wIn m c (ix2 k ⟨if e.val < 512 then e.val else 512 + e.val, by split <;> omega⟩) := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise
  after_results_simp <;> (try dsimp only [Matrix.cons_val]) <;> (try after_results_simp)
  pointwise
  split_ifs <;> first | rfl | omega | (exact Cert.InprojMath.pad_zero) | (congr 2; apply Fin.ext; simp only []; omega)

/-- The bias of the gates, and zero past them. -/
theorem bias (q : Fin 128) : (show FVec Ideal S1x128 .f32 from V m c main_v19) (ix2 0 q)
    = if h : q.val < 8 then (show FVec Ideal S8 .f32 from m ((c : Thread nD τ).loc main_arg2)) (ix1 ⟨q.val, h⟩)
      else if h : q.val < 12 then (show FVec Ideal S4 .f32 from m ((c : Thread nD τ).loc main_arg3)) (ix1 ⟨q.val - 8, by omega⟩)
      else if h : q.val < 16 then (show FVec Ideal S4 .f32 from m ((c : Thread nD τ).loc main_arg4)) (ix1 ⟨q.val - 12, by omega⟩)
      else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise
  after_results_simp <;> (try dsimp only [Matrix.cons_val]) <;> (try after_results_simp)
  pointwise
  by_cases h8 : q.val < 8
  · rw [dif_pos (by omega), dif_pos h8, dif_pos h8]
  · rw [dif_neg h8]
    by_cases h12 : q.val < 12
    · rw [dif_pos (by omega), dif_neg h8, dif_pos (by omega), dif_pos h12]
    · rw [dif_neg h12]
      by_cases h16 : q.val < 16
      · rw [dif_pos h16, dif_neg h8, dif_neg (by omega), dif_pos h16]
        refine congrArg (fun i => (show FVec Ideal S4 .f32 from m ((c : Thread nD τ).loc main_arg4)) (ix1 i)) (Fin.ext ?_)
        show q.val - 8 - 4 = q.val - 12
        omega
      · rw [dif_neg h16, dif_neg h16]
        exact Cert.InprojMath.pad_zero

/-- The triangle of ones. -/
theorem tri (p q : Fin 512) : (show FVec Ideal S512x512 .bf16 from V m c main_v28) (ix2 p q)
    = if q.val ≤ p.val then 1 else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise
  rw [Cert.InprojWords.tri_bit p.val q.val p.isLt q.isLt, Cert.InprojWords.uitofp_ite]

/-- The placement of the three summands of a decay: a head's summand `k` is at column `3·head + k`. -/
theorem place (i : Fin 384) (j : Fin 128) : (show FVec Ideal S384x128 .bf16 from V m c main_v46) (ix2 i j)
    = if i.val % 128 < 8 ∧ j.val = 3 * (i.val % 128) + i.val / 128 then 1 else 0 := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise
  have h := Cert.InprojWords.place_bit (i.val % 128) (i.val / 128) j.val (by omega) (by omega) j.isLt
  rw [← Cert.InprojWords.remw_eq i, ← Cert.InprojWords.quow_eq i] at h
  exact (congrArg (FloatOps.uitofp (F := Ideal) .bf16) h).trans (Cert.InprojWords.uitofp_ite _)

/-- The norm's gain. -/
theorem gain (q : Fin 1024) : (show FVec Ideal S1x1024 .f32 from V m c main_v20) (ix2 0 q)
    = (show FVec Ideal S1024 .f32 from m ((c : Thread nD τ).loc main_arg5)) (ix1 q) := by
  unfold V
  simp only [hostOps0, hostOps0_1, hostOps0_2, hostOps0_3, hostOps0_4, hostOps0_5, hostOps0_6, hostOps0_7, hostOps0_8, List.flatten_cons, List.flatten_nil, List.append_nil, List.cons_append, List.nil_append, StableHlo.TRef.binary, StableHlo.TRef.nullary, StableHlo.TRef.ternary, StableHlo.TRef.unary, StableHlo.TRef.toBuf, StableHlo.TRef.ofBuf, cast_eq]
  after_results_simp <;> (try dsimp only [Matrix.cons_val]) <;> (try after_results_simp)
  pointwise

/-- The input's block. -/
theorem blk0 (p : Fin 512) (k : Fin 1024) : (show FVec Ideal S1x512x1024 .f32 from iblk m c 0 t) (ix3 0 p k)
    = (show FVec Ideal S16x4096x1024 .f32 from m ((c : Thread nD τ).loc main_arg0)) (ix3 (bat t) (tok t p) k) := by
  blk_simp [iblk]
  entry_read
  unfold bat tok
  blk_ext [idx t]

/-- The norm's gain, as a block. -/
theorem blk1 (q : Fin 1024) : (show FVec Ideal S1x1024 .f32 from iblk m c 1 t) (ix2 0 q)
    = (show FVec Ideal S1024 .f32 from m ((c : Thread nD τ).loc main_arg5)) (ix1 q) := by
  blk_simp [iblk]
  have e : ((View.whole main_v20).slice (win0_1.rect t)).emb (ix2 0 q) = ix2 0 q := by blk_ext [idx t]
  refine Eq.trans ?_ (gain m c q)
  exact congrArg (V m c main_v20) e

/-- The natural weights, as a block. -/
theorem blk2 (k : Fin 1024) (q : Fin 2688) : (show FVec Ideal S1024x2688 .bf16 from iblk m c 2 t) (ix2 k q)
    = if h : q.val < 2576 then wIn m c (ix2 k ⟨if q.val < 512 then 512 + q.val else if q.val < 2048 then 1032 + q.val
        else if q.val < 2560 then 1040 + q.val else if q.val < 2568 then q.val - 1024 else 512 + q.val, by split_ifs <;> omega⟩)
      else 0 := by
  blk_simp [iblk]
  have e : ((View.whole main_v13).slice (win0_2.rect t)).emb (ix2 k q) = ix2 k q := by blk_ext [idx t]
  refine Eq.trans ?_ (nat m c k q)
  exact congrArg (V m c main_v13) e

/-- The transposed weights, as a block. -/
theorem blk3 (e : Fin 1024) (k : Fin 1024) : (show FVec Ideal S1024x1024 .bf16 from iblk m c 3 t) (ix2 e k)
    = wIn m c (ix2 k ⟨if e.val < 512 then e.val else 512 + e.val, by split <;> omega⟩) := by
  blk_simp [iblk]
  have h : ((View.whole main_v16).slice (win0_3.rect t)).emb (ix2 e k) = ix2 e k := by blk_ext [idx t]
  refine Eq.trans ?_ (trans m c e k)
  exact congrArg (V m c main_v16) h

/-- The bias, as a block. -/
theorem blk4 (q : Fin 128) : (show FVec Ideal S1x128 .f32 from iblk m c 4 t) (ix2 0 q)
    = if h : q.val < 8 then (show FVec Ideal S8 .f32 from m ((c : Thread nD τ).loc main_arg2)) (ix1 ⟨q.val, h⟩)
      else if h : q.val < 12 then (show FVec Ideal S4 .f32 from m ((c : Thread nD τ).loc main_arg3)) (ix1 ⟨q.val - 8, by omega⟩)
      else if h : q.val < 16 then (show FVec Ideal S4 .f32 from m ((c : Thread nD τ).loc main_arg4)) (ix1 ⟨q.val - 12, by omega⟩)
      else 0 := by
  blk_simp [iblk]
  have e : ((View.whole main_v19).slice (win0_4.rect t)).emb (ix2 0 q) = ix2 0 q := by blk_ext [idx t]
  refine Eq.trans ?_ (bias m c q)
  exact congrArg (V m c main_v19) e

/-- The triangle, as a block. -/
theorem blk5 (p q : Fin 512) : (show FVec Ideal S512x512 .bf16 from iblk m c 5 t) (ix2 p q)
    = if q.val ≤ p.val then 1 else 0 := by
  blk_simp [iblk]
  have e : ((View.whole main_v28).slice (win0_5.rect t)).emb (ix2 p q) = ix2 p q := by blk_ext [idx t]
  refine Eq.trans ?_ (tri m c p q)
  exact congrArg (V m c main_v28) e

/-- The placement, as a block. -/
theorem blk6 (i : Fin 384) (j : Fin 128) : (show FVec Ideal S384x128 .bf16 from iblk m c 6 t) (ix2 i j)
    = if i.val % 128 < 8 ∧ j.val = 3 * (i.val % 128) + i.val / 128 then 1 else 0 := by
  blk_simp [iblk]
  have e : ((View.whole main_v46).slice (win0_6.rect t)).emb (ix2 i j) = ix2 i j := by blk_ext [idx t]
  refine Eq.trans ?_ (place m c i j)
  exact congrArg (V m c main_v46) e

end Cert.InprojIdeal.Blocks

end
-- ==== Proof.InprojRefRows.lean ====
module

public import proofs.«01_k».proof.Proof.InprojMath
public import proofs.«01_k».proof.Proof.InprojWords
public import proofs.«01_k».proof.Proof.FoxWords
public import proofs.«01_k».proof.Proof.FoxMath
public import proofs.«01_k».proof.Proof.Gen.InprojRefIdeal.Run

/-! The reference of the input projection, one stage at a time, each read at one row. -/

@[expose] public section

set_option maxRecDepth 16384

noncomputable section

namespace Cert.InprojRefIdeal.Rows

open Cert.InprojRefIdeal Cert.InprojRefIdeal.Gen Idealize.ShloMosaic Idealize.ShloMosaic.TcCoe Idealize.SL.Sem
open Cert.InprojMath (logsig)

/-- The root mean square norm of every row, times a gain. -/
def normed (x : FVec Ideal S16x4096x1024 .f32) (g : FVec Ideal S1024 .f32) : FVec Ideal S16x4096x1024 .f32 :=
  mulf (mulf x (broadcastInDim S16x4096x1024 ![0, 1, 2] bcast_S16x4096x1_S16x4096x1024_0_1_2 (Host.rsqrt (addf (Host.divf (broadcastInDim S16x4096x1 ![0, 1] bcast_S16x4096_S16x4096x1_0_1 (Host.reduceAdd (mulf x x) (constant S_ .f32 0x00000000#32) reducesTo_S16x4096x1024_S16x4096_d2 h_S_)) (broadcastInDim S16x4096x1 ![] bcast_S_S16x4096x1 (constant S_ .f32 0x44800000#32))) (broadcastInDim S16x4096x1 ![] bcast_S_S16x4096x1 (constant S_ .f32 0x358637BD#32)))))) (broadcastInDim S16x4096x1024 ![0, 1, 2] bcast_S1x1x1024_S16x4096x1024_0_1_2 (broadcastInDim S1x1x1024 ![2] bcast_S1024_S1x1x1024_2 g))

/-- The projection of the normed rows. -/
def proj (x : FVec Ideal S16x4096x1024 .f32) (w : FVec Ideal S1024x3600 .f32) (g : FVec Ideal S1024 .f32) : FVec Ideal S16x4096x3600 .f32 :=
  Host.dotGeneral dot_S16x4096x1024_S1024x3600_S16x4096x3600_2_0_01_1_n_n none (normed x g) w

/-- The attention's forget logits. -/
def foxLogit (x : FVec Ideal S16x4096x1024 .f32) (w : FVec Ideal S1024x3600 .f32) (bf : FVec Ideal S8 .f32) (g : FVec Ideal S1024 .f32) : FVec Ideal S16x4096x8 .f32 :=
  addf (extractStridedSlice S16x4096x8 ![0, 0, 1536] (proj x w g) slices_S16x4096x3600_S16x4096x8_0_0_1536) (broadcastInDim S16x4096x8 ![0, 1, 2] bcast_S1x1x8_S16x4096x8_0_1_2 (broadcastInDim S1x1x8 ![2] bcast_S8_S1x1x8_2 bf))

/-- The recurrence's forget logits, and logits of zero past them. -/
def mlLogit (x : FVec Ideal S16x4096x1024 .f32) (w : FVec Ideal S1024x3600 .f32) (bm : FVec Ideal S4 .f32) (g : FVec Ideal S1024 .f32) : FVec Ideal S16x4096x116 .f32 :=
  pad S16x4096x116 ![0, 0, 0] ![0, 0, 112] ![0, 0, 0] (addf (extractStridedSlice S16x4096x4 ![0, 0, 3084] (proj x w g) slices_S16x4096x3600_S16x4096x4_0_0_3084) (broadcastInDim S16x4096x4 ![0, 1, 2] bcast_S1x1x4_S16x4096x4_0_1_2 (broadcastInDim S1x1x4 ![2] bcast_S4_S1x1x4_2 bm))) (sitofp .f32 (constantI S_ 32 0#32)) pads_S16x4096x4_S16x4096x116_000_000_01120 h_S_

/-- The log of the logistic function, over the attention's heads. -/
def logSig8 (y : FVec Ideal S16x4096x8 .f32) : FVec Ideal S16x4096x8 .f32 :=
  Host.negf (select (cmpf .une (subf (Host.negf y) (broadcastInDim S16x4096x8 ![] bcast_S_S16x4096x8 (constant S_ .f32 0x00000000#32))) (subf (Host.negf y) (broadcastInDim S16x4096x8 ![] bcast_S_S16x4096x8 (constant S_ .f32 0x00000000#32)))) (addf (Host.negf y) (broadcastInDim S16x4096x8 ![] bcast_S_S16x4096x8 (constant S_ .f32 0x00000000#32))) (addf (maximumf (Host.negf y) (broadcastInDim S16x4096x8 ![] bcast_S_S16x4096x8 (constant S_ .f32 0x00000000#32))) (Host.log1p (Host.exp (Host.negf (Host.absf (subf (Host.negf y) (broadcastInDim S16x4096x8 ![] bcast_S_S16x4096x8 (constant S_ .f32 0x00000000#32)))))))))

/-- The same over the recurrence's columns. -/
def logSig116 (y : FVec Ideal S16x4096x116 .f32) : FVec Ideal S16x4096x116 .f32 :=
  Host.negf (select (cmpf .une (subf (Host.negf y) (broadcastInDim S16x4096x116 ![] bcast_S_S16x4096x116 (constant S_ .f32 0x00000000#32))) (subf (Host.negf y) (broadcastInDim S16x4096x116 ![] bcast_S_S16x4096x116 (constant S_ .f32 0x00000000#32)))) (addf (Host.negf y) (broadcastInDim S16x4096x116 ![] bcast_S_S16x4096x116 (constant S_ .f32 0x00000000#32))) (addf (maximumf (Host.negf y) (broadcastInDim S16x4096x116 ![] bcast_S_S16x4096x116 (constant S_ .f32 0x00000000#32))) (Host.log1p (Host.exp (Host.negf (Host.absf (subf (Host.negf y) (broadcastInDim S16x4096x116 ![] bcast_S_S16x4096x116 (constant S_ .f32 0x00000000#32)))))))))

/-- The running sum of the attention's log forget gates, in units of the logarithm of two. -/
def decay (x : FVec Ideal S16x4096x1024 .f32) (w : FVec Ideal S1024x3600 .f32) (bf : FVec Ideal S8 .f32) (g : FVec Ideal S1024 .f32) : FVec Ideal S16x4096x8 .f32 :=
  Host.divf (Host.reduceWindowAdd ![1, 4096, 1] ![1, 1, 1] ![0, 4095, 0] ![0, 0, 0] (logSig8 (foxLogit x w bf g)) (broadcastInDim S_ ![] bcast_S_S_ (constant S_ .f32 0x00000000#32)) reduceWindows_S16x4096x8_S16x4096x8_w1s1p0_0_w4096s1p4095_0_w1s1p0_0 h_S_) (broadcastInDim S16x4096x8 ![] bcast_S_S16x4096x8 (Host.log (constant S_ .f32 0x40000000#32)))

/-- The log forget gates summed within each chunk. -/
def chunkSum (x : FVec Ideal S16x4096x1024 .f32) (w : FVec Ideal S1024x3600 .f32) (bm : FVec Ideal S4 .f32) (g : FVec Ideal S1024 .f32) : FVec Ideal S16x4096x116 .f32 :=
  shapeCast _ (Host.reduceWindowAdd ![1, 1, 128, 1] ![1, 1, 1, 1] ![0, 0, 127, 0] ![0, 0, 0, 0] (shapeCast _ (logSig116 (mlLogit x w bm g)) shapeCasts_S16x4096x116_S16x32x128x116) (broadcastInDim S_ ![] bcast_S_S_ (constant S_ .f32 0x00000000#32)) reduceWindows_S16x32x128x116_S16x32x128x116_w1s1p0_0_w1s1p0_0_w128s1p127_0_w1s1p0_0 h_S_) shapeCasts_S16x32x128x116_S16x4096x116

/-- The input gates. -/
def inGate (x : FVec Ideal S16x4096x1024 .f32) (w : FVec Ideal S1024x3600 .f32) (bi : FVec Ideal S4 .f32) (g : FVec Ideal S1024 .f32) : FVec Ideal S16x4096x4 .f32 :=
  addf (extractStridedSlice S16x4096x4 ![0, 0, 3080] (proj x w g) slices_S16x4096x3600_S16x4096x4_0_0_3080) (broadcastInDim S16x4096x4 ![0, 1, 2] bcast_S1x1x4_S16x4096x4_0_1_2 (broadcastInDim S1x1x4 ![2] bcast_S4_S1x1x4_2 bi))

/-- The keys. -/
def keys (x : FVec Ideal S16x4096x1024 .f32) (w : FVec Ideal S1024x3600 .f32) (g : FVec Ideal S1024 .f32) : FVec Ideal S16x4096x512 .bf16 :=
  truncf .bf16 (extractStridedSlice S16x4096x512 ![0, 0, 512] (proj x w g) slices_S16x4096x3600_S16x4096x512_0_0_512) bitsLt_bf16_f32

/-- The recurrence's four projections. -/
def mz (x : FVec Ideal S16x4096x1024 .f32) (w : FVec Ideal S1024x3600 .f32) (g : FVec Ideal S1024 .f32) : FVec Ideal S16x4096x2048 .bf16 :=
  truncf .bf16 ((concatenate S16x4096x2048 2 [⟨S16x4096x512, ((extractStridedSlice S16x4096x512 ![0, 0, 1544] (proj x w g) slices_S16x4096x3600_S16x4096x512_0_0_1544))⟩, ⟨S16x4096x512, ((extractStridedSlice S16x4096x512 ![0, 0, 2056] (proj x w g) slices_S16x4096x3600_S16x4096x512_0_0_2056))⟩, ⟨S16x4096x512, ((extractStridedSlice S16x4096x512 ![0, 0, 2568] (proj x w g) slices_S16x4096x3600_S16x4096x512_0_0_2568))⟩, ⟨S16x4096x512, ((extractStridedSlice S16x4096x512 ![0, 0, 3088] (proj x w g) slices_S16x4096x3600_S16x4096x512_0_0_3088))⟩] concatenates_S16x4096x512_S16x4096x512_S16x4096x512_S16x4096x512_S16x4096x2048_d2)) bitsLt_bf16_f32

/-- The queries, scaled, and the values, channel by channel. -/
def qvt (x : FVec Ideal S16x4096x1024 .f32) (w : FVec Ideal S1024x3600 .f32) (g : FVec Ideal S1024 .f32) : FVec Ideal S16x1024x4096 .bf16 :=
  truncf .bf16 (transpose S16x1024x4096 [0, 2, 1] (concatenate S16x4096x1024 2 [⟨S16x4096x512, (Host.divf (mulf (extractStridedSlice S16x4096x512 ![0, 0, 0] (proj x w g) slices_S16x4096x3600_S16x4096x512_0_0_0) (broadcastInDim S16x4096x512 ![] bcast_S_S16x4096x512 (constant S_ .f32 0x3E000000#32))) (broadcastInDim S16x4096x512 ![] bcast_S_S16x4096x512 (Host.log (constant S_ .f32 0x40000000#32))))⟩, ⟨S16x4096x512, (extractStridedSlice S16x4096x512 ![0, 0, 1024] (proj x w g) slices_S16x4096x3600_S16x4096x512_0_0_1024)⟩] concatenates_S16x4096x512_S16x4096x512_S16x4096x1024_d2) transposes_S16x4096x1024_S16x1024x4096_0_2_1) bitsLt_bf16_f32

/-- The gates. -/
def gm (x : FVec Ideal S16x4096x1024 .f32) (w : FVec Ideal S1024x3600 .f32) (bf : FVec Ideal S8 .f32) (bi : FVec Ideal S4 .f32) (bm : FVec Ideal S4 .f32) (g : FVec Ideal S1024 .f32) : FVec Ideal S16x4096x128 .f32 :=
  (concatenate S16x4096x128 2 [⟨S16x4096x8, ((decay x w bf g))⟩, ⟨S16x4096x4, ((inGate x w bi g))⟩, ⟨S16x4096x116, ((chunkSum x w bm g))⟩] concatenates_S16x4096x8_S16x4096x4_S16x4096x116_S16x4096x128_d2)

/-- The gates, column by column. -/
def gmt (x : FVec Ideal S16x4096x1024 .f32) (w : FVec Ideal S1024x3600 .f32) (bf : FVec Ideal S8 .f32) (bi : FVec Ideal S4 .f32) (bm : FVec Ideal S4 .f32) (g : FVec Ideal S1024 .f32) : FVec Ideal S16x128x4096 .f32 :=
  transpose S16x128x4096 [0, 2, 1] ((concatenate S16x4096x128 2 [⟨S16x4096x8, ((decay x w bf g))⟩, ⟨S16x4096x4, ((inGate x w bi g))⟩, ⟨S16x4096x116, ((chunkSum x w bm g))⟩] concatenates_S16x4096x8_S16x4096x4_S16x4096x116_S16x4096x128_d2)) transposes_S16x4096x128_S16x128x4096_0_2_1

/-- The decays, each the first of three columns. -/
def caug (x : FVec Ideal S16x4096x1024 .f32) (w : FVec Ideal S1024x3600 .f32) (bf : FVec Ideal S8 .f32) (g : FVec Ideal S1024 .f32) : FVec Ideal S16x4096x128 .bf16 :=
  truncf .bf16 (pad S16x4096x128 ![0, 0, 0] ![0, 0, 104] ![0, 0, 0] (shapeCast _ (pad S16x4096x8x3 ![0, 0, 0, 0] ![0, 0, 0, 2] ![0, 0, 0, 0] (broadcastInDim S16x4096x8x1 ![0, 1, 2] bcast_S16x4096x8_S16x4096x8x1_0_1_2 (decay x w bf g)) (sitofp .f32 (constantI S_ 32 0#32)) pads_S16x4096x8x1_S16x4096x8x3_000_000_000_020 h_S_) shapeCasts_S16x4096x8x3_S16x4096x24) (sitofp .f32 (constantI S_ 32 0#32)) pads_S16x4096x24_S16x4096x128_000_000_01040 h_S_) bitsLt_bf16_f32

variable (x : FVec Ideal S16x4096x1024 .f32) (w : FVec Ideal S1024x3600 .f32) (bf : FVec Ideal S8 .f32)
  (bi bm : FVec Ideal S4 .f32) (g : FVec Ideal S1024 .f32) (b : Fin 16) (s : Fin 4096)

/-- The running sum along the middle axis, for any sizes. -/
theorem running {A N C M : ℕ} (hM : M = N - 1) (y : FVec Ideal ⟨3, ![A, N, C]⟩ .f32) (v : FVec Ideal S_ .f32) (hv : ∀ i, v i = 0)
    (h : (⟨3, ![A, N, C]⟩ : Shape).ReduceWindows (![1, N, 1] : Fin 3 → ℕ) ![1, 1, 1] ![0, M, 0] ![0, 0, 0] ⟨3, ![A, N, C]⟩)
    (a : Fin A) (j : Fin N) (k : Fin C) :
    Host.reduceWindowAdd (![1, N, 1] : Fin 3 → ℕ) ![1, 1, 1] ![0, M, 0] ![0, 0, 0] y v h h_S_ (ix3 a j k)
      = ∑ u : Fin N, if u.val ≤ j.val then y (ix3 a u k) else 0 :=
  Cert.InprojMath.cumsum3 hM y _ (hv _) h a j k

theorem two_log : Ideal.log (Ideal.ofBits .f32 0x40000000#32) = ((Real.log 2 : ℝ) : EReal) := by
  rw [Cert.FoxWords.two, Ideal.log_coe, if_neg (by norm_num)]

theorem eighth : Ideal.ofBits .f32 0x3E000000#32 = ((1 / 8 : ℝ) : EReal) := by
  simp [Ideal.ofBits, Ideal.ieee, -EReal.coe_mul]; norm_num

theorem proj_at (j : Fin 3600) : proj x w g (ix3 b s j) = ∑ k : Fin 1024, normed x g (ix3 b s k) * w (ix2 k j) := by
  pointwise [proj]

theorem keys_at (j : Fin 512) : keys x w g (ix3 b s j) = proj x w g (ix3 b s ⟨512 + j.val, by omega⟩) := by
  pointwise [keys]

theorem mz_at (j : Fin 2048) : mz x w g (ix3 b s j) = proj x w g (ix3 b s ⟨if j.val < 1536 then 1544 + j.val else 1552 + j.val, by split <;> omega⟩) := by
  pointwise [mz]
  generalize proj x w g = f
  have key : ∀ a b' : Fin 3600, a.val = b'.val → f (ix3 b s a) = f (ix3 b s b') := fun a b' h => congrArg (fun i => f (ix3 b s i)) (Fin.ext h)
  split_ifs <;> (refine key _ _ ?_; dsimp only; split_ifs <;> omega)

theorem qvt_at (e : Fin 1024) : qvt x w g (ix3 b e s)
    = if h : e.val < 512 then Ideal.div (proj x w g (ix3 b s ⟨e.val, by omega⟩) * ((1 / 8 : ℝ) : EReal)) ((Real.log 2 : ℝ) : EReal)
      else proj x w g (ix3 b s ⟨512 + e.val, by omega⟩) := by
  pointwise [qvt]
  rw [two_log, eighth]
  by_cases h : e.val < 512
  · rw [dif_pos h, dif_pos h]
  · rw [dif_neg h, dif_neg h]
    refine congrArg (fun i => proj x w g (ix3 b s i)) (Fin.ext ?_)
    dsimp only
    omega

theorem foxLogit_at (h : Fin 8) : foxLogit x w bf g (ix3 b s h) = proj x w g (ix3 b s ⟨1536 + h.val, by omega⟩) + bf (ix1 h) := by
  pointwise [foxLogit]

theorem mlLogit_at (h : Fin 116) : mlLogit x w bm g (ix3 b s h)
    = if q : h.val < 4 then proj x w g (ix3 b s ⟨3084 + h.val, by omega⟩) + bm (ix1 ⟨h.val, q⟩) else 0 := by
  pointwise [mlLogit]
  by_cases q : h.val < 4
  · rw [dif_pos q, dif_pos q]
  · rw [dif_neg q, dif_neg q]
    exact Cert.InprojMath.pad_zero

theorem inGate_at (h : Fin 4) : inGate x w bi g (ix3 b s h) = proj x w g (ix3 b s ⟨3080 + h.val, by omega⟩) + bi (ix1 h) := by
  pointwise [inGate]

theorem logSig8_at (y : FVec Ideal S16x4096x8 .f32) (h : Fin 8) (r : ℝ) (hr : y (ix3 b s h) = (r : EReal)) :
    logSig8 y (ix3 b s h) = ((logsig r : ℝ) : EReal) := by
  pointwise [logSig8, hr]
  rw [if_neg (by simp)]
  exact Cert.InprojMath.logsig_ref r _ (EReal.coe_neg r).symm

theorem logSig116_at (y : FVec Ideal S16x4096x116 .f32) (h : Fin 116) (r : ℝ) (hr : y (ix3 b s h) = (r : EReal)) :
    logSig116 y (ix3 b s h) = ((logsig r : ℝ) : EReal) := by
  pointwise [logSig116, hr]
  rw [if_neg (by simp)]
  exact Cert.InprojMath.logsig_ref r _ (EReal.coe_neg r).symm

theorem decay_at (h : Fin 8) (r : Fin 4096 → ℝ) (hr : ∀ u, foxLogit x w bf g (ix3 b u h) = ((r u : ℝ) : EReal)) :
    decay x w bf g (ix3 b s h) = (((∑ u : Fin 4096, if u.val ≤ s.val then logsig (r u) else 0) * (Real.log 2)⁻¹ : ℝ) : EReal) := by
  unfold decay
  pointwise
  rw [running (A := 16) (N := 4096) (C := 8) (M := 4095) (by norm_num) (logSig8 (foxLogit x w bf g)) _ (fun i => by pointwise), two_log]
  rw [Cert.InprojMath.sum_ite_real _ (fun u => logsig (r u)) (fun u => logSig8_at b u _ h _ (hr u)) (fun u => u.val ≤ s.val),
    Cert.InprojMath.div_log2, ← EReal.coe_mul]

theorem chunkSum_at (j : Fin 116) (r : Fin 4096 → ℝ) (hr : ∀ u, mlLogit x w bm g (ix3 b u j) = ((r u : ℝ) : EReal)) :
    chunkSum x w bm g (ix3 b s j)
      = ((∑ u : Fin 128, if u.val ≤ s.val % 128 then logsig (r ⟨s.val / 128 * 128 + u.val, by omega⟩) else 0 : ℝ) : EReal) := by
  unfold chunkSum
  pointwise
  have e := Cert.InprojMath.cumsum4 (A := 16) (B := 32) (N := 128) (C := 116) (M := 127) rfl
    (shapeCast S16x32x128x116 (logSig116 (mlLogit x w bm g)) shapeCasts_S16x4096x116_S16x32x128x116)
    (broadcastInDim S_ ![] bcast_S_S_ (constant (F := Ideal) S_ .f32 0x00000000#32) (fun k => k.elim0)) (by pointwise) reduceWindows_S16x32x128x116_S16x32x128x116_w1s1p0_0_w1s1p0_0_w128s1p127_0_w1s1p0_0
    b ⟨s.val / 128, by omega⟩ ⟨s.val % 128, by omega⟩ j
  refine e.trans ?_
  rw [Cert.InprojMath.sum_ite_real _ (fun u : Fin 128 => logsig (r ⟨s.val / 128 * 128 + u.val, by omega⟩)) (fun u => ?_) (fun u => u.val ≤ s.val % 128)]
  pointwise
  exact logSig116_at b _ _ j _ (hr _)

theorem gm_at (j : Fin 128) : gm x w bf bi bm g (ix3 b s j)
    = if h : j.val < 8 then decay x w bf g (ix3 b s ⟨j.val, h⟩)
      else if h : j.val < 12 then inGate x w bi g (ix3 b s ⟨j.val - 8, by omega⟩)
      else chunkSum x w bm g (ix3 b s ⟨j.val - 12, by omega⟩) := by
  pointwise [gm]
  by_cases h8 : j.val < 8
  · rw [dif_pos h8, dif_pos h8]
  · rw [dif_neg h8, dif_neg h8]
    by_cases h12 : j.val < 12
    · rw [dif_pos (by omega), dif_pos h12]
    · rw [dif_neg (by omega), dif_neg h12]
      refine congrArg (fun i => chunkSum x w bm g (ix3 b s i)) (Fin.ext ?_)
      dsimp only
      omega

theorem gmt_at (j : Fin 128) : gmt x w bf bi bm g (ix3 b j s) = gm x w bf bi bm g (ix3 b s j) := by
  unfold gmt
  pointwise [gm]

theorem caug_cols (f : Fin 8 → EReal) (z : EReal) (j : ℕ) :
    (if h : j < 24 then if h' : j / 3 < 8 ∧ j % 3 < 1 then f ⟨j / 3, h'.1⟩ else z else z)
      = if h : j < 24 ∧ j % 3 = 0 then f ⟨j / 3, by omega⟩ else z := by
  by_cases h : j < 24 ∧ j % 3 = 0
  · have a : j / 3 < 8 ∧ j % 3 < 1 := by omega
    simp only [dif_pos h, dif_pos h.1, dif_pos a]
  · rw [dif_neg h]
    by_cases h1 : j < 24
    · have a : ¬ (j / 3 < 8 ∧ j % 3 < 1) := by omega
      simp only [dif_pos h1, dif_neg a]
    · simp only [dif_neg h1]

theorem caug_at (j : Fin 128) : caug x w bf g (ix3 b s j)
    = if h : j.val < 24 ∧ j.val % 3 = 0 then decay x w bf g (ix3 b s ⟨j.val / 3, by omega⟩) else 0 := by
  unfold caug
  pointwise
  refine (caug_cols (fun i => decay x w bf g (ix3 b s i)) (FloatOps.sitofp (F := Ideal) FTy.f32 0#32) j.val).trans ?_
  by_cases h : j.val < 24 ∧ j.val % 3 = 0
  · rw [dif_pos h, dif_pos h]
  · rw [dif_neg h, dif_neg h]
    exact Cert.InprojMath.pad_zero

variable (m : (ℓ : Loc nD τ sig) → Buf (Elt Ideal) ℓ) (c : Dev nD)

theorem res1_eq : Value.res_out1 m c = mz (m ((c.tc : Thread nD τ).loc main_arg0)) (m ((c.tc : Thread nD τ).loc main_arg1)) (m ((c.tc : Thread nD τ).loc main_arg5)) := rfl
theorem res3_eq : Value.res_out3 m c = gm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl
theorem res4_eq : Value.res_out4 m c = gmt (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl
theorem res5_eq : Value.res_out5 m c = caug (m ((c.tc : Thread nD τ).loc main_arg0)) (m ((c.tc : Thread nD τ).loc main_arg1)) (m ((c.tc : Thread nD τ).loc main_arg2)) (m ((c.tc : Thread nD τ).loc main_arg5)) := rfl

end Cert.InprojRefIdeal.Rows

end
-- ==== Proof.InprojRows.lean ====
module

public import proofs.«01_k».proof.Proof.InprojRefRows
public import proofs.«01_k».proof.Proof.Gen.InprojIdeal.Value

/-! The projection kernel's computations, each read at one row. -/

@[expose] public section

set_option maxRecDepth 16384

noncomputable section

namespace Cert.InprojIdeal.Rows

open Cert.InprojIdeal Cert.InprojIdeal.Gen Idealize.ShloMosaic Idealize.ShloMosaic.TcCoe Idealize.SL.Sem
open Cert.InprojMath (logsig)

theorem qscale : (Named.named (F := Ideal) Cert.InprojIdeal.κ "qscale" (φ := .f32) 0x3E38AA3B#32 : EReal) = (((1 / 8) * (Real.log 2)⁻¹ : ℝ) : EReal) :=
  IdealRules.named_const.ideal_named_scalar _ _ _ _ rfl
theorem log2e : (Named.named (F := Ideal) Cert.InprojIdeal.κ "log2e" (φ := .f32) 0x3FB8AA3B#32 : EReal) = (((Real.log 2)⁻¹ : ℝ) : EReal) :=
  IdealRules.named_const.ideal_named_scalar _ _ _ _ rfl

/-- The four chunks' differences, with one name for the row before a chunk. -/
theorem chunk_cols (f : Fin 512 → EReal) (p : Fin 512) :
    (if h : p.val < 128 then f p
      else if h : p.val - 128 < 128 then f ⟨128 + (p.val - 128), by omega⟩ - f 127
      else if h : p.val - 128 - 128 < 128 then f ⟨256 + (p.val - 128 - 128), by omega⟩ - f 255
      else f ⟨384 + (p.val - 128 - 128 - 128), by omega⟩ - f 383)
    = if h : p.val < 128 then f p else f p - f ⟨p.val / 128 * 128 - 1, by omega⟩ := by
  have key : ∀ a b c d : Fin 512, a = c → b = d → f a - f b = f c - f d := fun a b c d h h' => by rw [h, h']
  by_cases h : p.val < 128
  · simp only [dif_pos h]
  · simp only [dif_neg h]
    by_cases h1 : p.val - 128 < 128
    · simp only [dif_pos h1]
      exact key _ _ _ _ (Fin.ext (show 128 + (p.val - 128) = p.val by omega)) (Fin.ext (show 127 = p.val / 128 * 128 - 1 by omega))
    · simp only [dif_neg h1]
      by_cases h2 : p.val - 128 - 128 < 128
      · simp only [dif_pos h2]
        exact key _ _ _ _ (Fin.ext (show 256 + (p.val - 128 - 128) = p.val by omega)) (Fin.ext (show 255 = p.val / 128 * 128 - 1 by omega))
      · simp only [dif_neg h2]
        exact key _ _ _ _ (Fin.ext (show 384 + (p.val - 128 - 128 - 128) = p.val by omega)) (Fin.ext (show 383 = p.val / 128 * 128 - 1 by omega))

/-- Against the placement one row of the three summands is left, and only the first summand is not zero. -/
theorem placed_cols (f : Fin 128 → EReal) (r : Fin 8 → ℝ) (hr : ∀ k : Fin 8, f ⟨k.val, by omega⟩ = ((r k : ℝ) : EReal)) (j : Fin 128) :
    (∑ x : Fin 384,
      (if h : x.val < 128 then f ⟨x.val, h⟩
        else if h : x.val - 128 < 128 then f ⟨x.val - 128, h⟩ - f ⟨x.val - 128, h⟩
        else f ⟨x.val - 128 - 128, by omega⟩ - f ⟨x.val - 128 - 128, by omega⟩ - (f ⟨x.val - 128 - 128, by omega⟩ - f ⟨x.val - 128 - 128, by omega⟩)) *
        if x.val % 128 < 8 ∧ j.val = 3 * (x.val % 128) + x.val / 128 then 1 else 0)
    = if q : j.val < 24 ∧ j.val % 3 = 0 then f ⟨j.val / 3, by omega⟩ else 0 := by
  have zero : ∀ (a : Fin 128) (h : a.val < 8), f a - f a = 0 := fun a h => by
    rw [show f a = ((r ⟨a.val, h⟩ : ℝ) : EReal) from hr ⟨a.val, h⟩, ← EReal.coe_sub, sub_self, EReal.coe_zero]
  by_cases h24 : j.val < 24
  · rw [Finset.sum_eq_single (⟨128 * (j.val % 3) + j.val / 3, by omega⟩ : Fin 384)]
    · have e1 : (128 * (j.val % 3) + j.val / 3) % 128 = j.val / 3 := by rw [Nat.mul_add_mod]; omega
      have e2 : (128 * (j.val % 3) + j.val / 3) / 128 = j.val % 3 := by rw [Nat.mul_add_div (by norm_num)]; omega
      rw [if_pos (show (128 * (j.val % 3) + j.val / 3) % 128 < 8 ∧ j.val = 3 * ((128 * (j.val % 3) + j.val / 3) % 128) + (128 * (j.val % 3) + j.val / 3) / 128 by rw [e1, e2]; omega), mul_one]
      by_cases h0 : j.val % 3 = 0
      · rw [dif_pos (show 128 * (j.val % 3) + j.val / 3 < 128 by omega), dif_pos (show j.val < 24 ∧ j.val % 3 = 0 from ⟨h24, h0⟩)]
        exact congrArg f (Fin.ext (show 128 * (j.val % 3) + j.val / 3 = j.val / 3 by omega))
      · have hq : j.val / 3 < 8 := by omega
        have hr3 : j.val % 3 = 1 ∨ j.val % 3 = 2 := by omega
        rw [dif_neg (show ¬ (128 * (j.val % 3) + j.val / 3 < 128) by omega), dif_neg (show ¬ (j.val < 24 ∧ j.val % 3 = 0) from fun q => h0 q.2)]
        by_cases h1 : 128 * (j.val % 3) + j.val / 3 - 128 < 128
        · rw [dif_pos h1]
          exact zero _ (show 128 * (j.val % 3) + j.val / 3 - 128 < 8 by omega)
        · rw [dif_neg h1, zero _ (show 128 * (j.val % 3) + j.val / 3 - 128 - 128 < 8 by omega), sub_zero]
    · intro x _ hx
      have hx' : x.val ≠ 128 * (j.val % 3) + j.val / 3 := fun e => hx (Fin.ext e)
      rw [if_neg (show ¬ (x.val % 128 < 8 ∧ j.val = 3 * (x.val % 128) + x.val / 128) by omega), mul_zero]
    · intro h
      exact absurd (Finset.mem_univ _) h
  · rw [dif_neg (show ¬ (j.val < 24 ∧ j.val % 3 = 0) from fun q => h24 q.1)]
    refine Finset.sum_eq_zero fun x _ => ?_
    rw [if_neg (show ¬ (x.val % 128 < 8 ∧ j.val = 3 * (x.val % 128) + x.val / 128) by omega), mul_zero]

variable (p : Fin 512) (b : Fin 16) (s : Fin 4096)
variable (v3 : FVec Ideal S1x512x1024 .f32) (v15 : FVec Ideal S1x1024 .f32) (v20 : FVec Ideal S1024x2688 .bf16)

/-- The norm. -/
theorem normed_eq (x : FVec Ideal Cert.InprojRefIdeal.S16x4096x1024 .f32) (g : FVec Ideal Cert.InprojRefIdeal.S1024 .f32)
    (h3 : ∀ k, v3 (ix3 0 p k) = x (ix3 b s k)) (h15 : ∀ k, v15 (ix2 0 k) = g (ix1 k)) (k : Fin 1024) :
    k0_pay3 (F := Ideal) v3 v15 (ix2 p k) = Cert.InprojRefIdeal.Rows.normed x g (ix3 b s k) := by
  pointwise [k0_pay3, Cert.InprojRefIdeal.Rows.normed, h3, h15]

/-- The product with the natural weights. -/
theorem prod_eq (H : Fin 1024 → EReal) (hN : ∀ k, k0_pay3 (F := Ideal) v3 v15 (ix2 p k) = H k) (q : Fin 2688) :
    k0_pay4 (F := Ideal) v3 v15 v20 (ix2 p q) = ∑ k : Fin 1024, H k * v20 (ix2 k q) := by
  pointwise [k0_pay4, hN]

theorem keys_row (j : Fin 512) : k0_pay5 (F := Ideal) v3 v15 v20 (ix3 0 p j) = k0_pay4 (F := Ideal) v3 v15 v20 (ix2 p ⟨j.val, by omega⟩) := by
  pointwise [k0_pay5]

theorem mz_row (j : Fin 2048) : k0_pay6 (F := Ideal) v3 v15 v20 (ix3 0 p j) = k0_pay4 (F := Ideal) v3 v15 v20 (ix2 p ⟨512 + j.val, by omega⟩) := by
  pointwise [k0_pay6]

/-- The scaled queries. -/
theorem query_row (v19 v33 : FVec Ideal S512x1024 .bf16) (e : Fin 512) :
    k0_pay7 (F := Ideal) v19 v33 (ix3 0 e p) = (∑ k : Fin 1024, v33 (ix2 e k) * v19 (ix2 p k)) * (((1 / 8) * (Real.log 2)⁻¹ : ℝ) : EReal) := by
  pointwise [k0_pay7]
  rw [qscale]

/-- The values. -/
theorem value_row (v19 v33 : FVec Ideal S512x1024 .bf16) (e : Fin 512) :
    k0_pay8 (F := Ideal) v19 v33 (ix3 0 e p) = ∑ k : Fin 1024, v33 (ix2 e k) * v19 (ix2 p k) := by
  pointwise [k0_pay8]

/-- The gates' logits. -/
theorem gate_row (v22 : FVec Ideal S512x2688 .f32) (v50 : FVec Ideal S1x128 .f32) (j : Fin 128) :
    k0_pay9 (F := Ideal) v22 v50 (ix2 p j) = v22 (ix2 p ⟨2560 + j.val, by omega⟩) + v50 (ix2 0 j) := by
  pointwise [k0_pay9]

/-- The running sum of a column of real logits: the two small summands vanish. -/
theorem sums_row (v22 : FVec Ideal S512x2688 .f32) (v50 : FVec Ideal S1x128 .f32) (v69 : FVec Ideal S512x512 .bf16) (j : Fin 128)
    (r : Fin 512 → ℝ) (hg : ∀ q, k0_pay9 (F := Ideal) v22 v50 (ix2 q j) = ((r q : ℝ) : EReal))
    (ht : ∀ p q, v69 (ix2 p q) = if q.val ≤ p.val then 1 else 0) :
    k0_pay12 (F := Ideal) (k0_pay10 v22 v50 v69) (k0_pay11 v22 v50 v69) (ix2 p j)
      = ((∑ q : Fin 512, if q.val ≤ p.val then logsig (r q) else 0 : ℝ) : EReal) := by
  pointwise [k0_pay12, k0_pay11, k0_pay10, hg, ht]
  have ej : (⟨256 + j.val - 128 - 128, by omega⟩ : Fin 128) = j := Fin.ext (by dsimp only; omega)
  simp only [dif_neg (show ¬ (256 + j.val < 128) by omega), dif_neg (show ¬ (256 + j.val - 128 < 128) by omega), ej, hg,
    Cert.InprojMath.logsig_kernel, ← EReal.coe_sub, sub_self, EReal.coe_zero, mul_zero, sub_zero, ite_self, Finset.sum_const_zero, add_zero,
    ite_mul, one_mul, zero_mul, ite_self]
  exact Cert.InprojMath.sum_ite_real _ (fun q => Cert.InprojMath.logsig (r q)) (fun _ => rfl) (fun q => q.val ≤ p.val)

variable (v53 : FVec Ideal S512x128 .f32) (v72 : FVec Ideal S512x384 .f32) (v73 : FVec Ideal S512x128 .f32) (v92 : FVec Ideal S1x128 .f32)

/-- The decay. -/
theorem decay_row (j : Fin 128) : k0_pay13 (F := Ideal) v72 v73 v92 (ix2 p j)
    = (v92 (ix2 0 j) + k0_pay12 (F := Ideal) v72 v73 (ix2 p j)) * (((Real.log 2)⁻¹ : ℝ) : EReal) := by
  pointwise [k0_pay13]
  rw [log2e]

/-- The next block's carry. -/
theorem carry_row (j : Fin 128) : k0_pay14 (F := Ideal) v72 v73 v92 (ix2 0 j)
    = v92 (ix2 0 j) + k0_pay12 (F := Ideal) v72 v73 (ix2 511 j) := by
  pointwise [k0_pay14]

theorem first_carry (j : Fin 128) : k0_pay2 (F := Ideal) (ix2 0 j) = 0 := by
  pointwise [k0_pay2]

/-- The gates' row: decay, input gate, or the running sum within the chunk. -/
theorem mixed_row (j : Fin 128) : k0_pay15 (F := Ideal) v53 v72 v73 v92 (ix2 p j)
    = if j.val < 8 then k0_pay13 (F := Ideal) v72 v73 v92 (ix2 p j) else if j.val < 12 then v53 (ix2 p j)
      else if h : p.val < 128 then k0_pay12 (F := Ideal) v72 v73 (ix2 p j)
      else k0_pay12 (F := Ideal) v72 v73 (ix2 p j) - k0_pay12 (F := Ideal) v72 v73 (ix2 ⟨p.val / 128 * 128 - 1, by omega⟩ j) := by
  pointwise [k0_pay15]
  rw [Cert.FoxWords.select_slt _ _ (by omega) (by omega), Cert.FoxWords.select_slt _ _ (by omega) (by omega)]
  by_cases h8 : j.val < 8
  · rw [if_pos h8, if_pos h8]
  · rw [if_neg h8, if_neg h8]
    by_cases h12 : j.val < 12
    · rw [if_pos h12, if_pos h12]
    · rw [if_neg h12, if_neg h12]
      exact chunk_cols (fun q => k0_pay12 (F := Ideal) v72 v73 (ix2 q j)) p

theorem gm_row (j : Fin 128) : k0_pay16 (F := Ideal) v53 v72 v73 v92 (ix3 0 p j) = k0_pay15 (F := Ideal) v53 v72 v73 v92 (ix2 p j) := by
  pointwise [k0_pay16]

theorem gmt_row (j : Fin 128) : k0_pay17 (F := Ideal) v53 v72 v73 v92 (ix3 0 j p) = k0_pay15 (F := Ideal) v53 v72 v73 v92 (ix2 p j) := by
  pointwise [k0_pay17]

/-- The placed decays: a head's decay in the first of its three columns, where it is real. -/
theorem placed_row (v96 : FVec Ideal S512x128 .f32) (v125 : FVec Ideal S384x128 .bf16)
    (h : ∀ i j, v125 (ix2 i j) = if i.val % 128 < 8 ∧ j.val = 3 * (i.val % 128) + i.val / 128 then 1 else 0)
    (r : Fin 8 → ℝ) (hr : ∀ k : Fin 8, v96 (ix2 p ⟨k.val, by omega⟩) = ((r k : ℝ) : EReal)) (j : Fin 128) :
    k0_pay1 (F := Ideal) v96 v125 (ix3 0 p j)
      = if q : j.val < 24 ∧ j.val % 3 = 0 then v96 (ix2 p ⟨j.val / 3, by omega⟩) else 0 := by
  pointwise [k0_pay1, h]
  exact placed_cols (fun q => v96 (ix2 p q)) r hr j

end Cert.InprojIdeal.Rows

end
-- ==== Proof.InprojLogit.lean ====
module

public import proofs.«01_k».proof.Proof.InprojRefRows

/-! The gates' logits, and that they are real where the precondition says so. -/

@[expose] public section

set_option maxRecDepth 16384

noncomputable section

namespace Cert.InprojLogit

open Cert.InprojRefIdeal Cert.InprojRefIdeal.Gen Cert.InprojRefIdeal.Rows Idealize.ShloMosaic

variable (x : FVec Ideal S16x4096x1024 .f32) (w : FVec Ideal S1024x3600 .f32) (bf : FVec Ideal S8 .f32)
  (bi bm : FVec Ideal S4 .f32) (g : FVec Ideal S1024 .f32) (b : Fin 16) (s : Fin 4096)

/-- The logit in column `j` of the gates' row. -/
def logit (j : Fin 128) : EReal :=
  (if h : j.val < 8 then proj x w g (ix3 b s ⟨1536 + j.val, by omega⟩)
    else if h : j.val < 16 then proj x w g (ix3 b s ⟨3072 + j.val, by omega⟩) else 0)
  + (if h : j.val < 8 then bf (ix1 ⟨j.val, h⟩)
      else if h : j.val < 12 then bi (ix1 ⟨j.val - 8, by omega⟩)
      else if h : j.val < 16 then bm (ix1 ⟨j.val - 12, by omega⟩)
      else 0)

/-- The gain, the forget gates' weights and their biases are real numbers. -/
structure Finite : Prop where
  g : ∀ k, ∃ r : ℝ, g (ix1 k) = r
  ff : ∀ k (h : Fin 8), ∃ r : ℝ, w (ix2 k ⟨1536 + h.val, by omega⟩) = r
  mf : ∀ k (h : Fin 4), ∃ r : ℝ, w (ix2 k ⟨3084 + h.val, by omega⟩) = r
  bf : ∀ h, ∃ r : ℝ, bf (ix1 h) = r
  bm : ∀ h, ∃ r : ℝ, bm (ix1 h) = r

theorem w1024 : Ideal.ofBits .f32 0x44800000#32 = ((1024 : ℝ) : EReal) := by
  simp [Ideal.ofBits, Ideal.ieee, -EReal.coe_mul]; norm_num
theorem weps : Ideal.ofBits .f32 0x358637BD#32 = ((8796093 / 8796093022208 : ℝ) : EReal) := by
  simp [Ideal.ofBits, Ideal.ieee, -EReal.coe_mul]; norm_num

theorem inv_root (t : ℝ) (ht : 0 ≤ t) : Ideal.rsqrt (Ideal.div (t : EReal) (Ideal.ofBits .f32 0x44800000#32) + Ideal.ofBits .f32 0x358637BD#32)
    = (((Real.sqrt (t * (1 / 1024) + 8796093 / 8796093022208))⁻¹ : ℝ) : EReal) := by
  have h : 0 < t * (1 / 1024) + 8796093 / 8796093022208 := by positivity
  rw [w1024, weps, Ideal.div_coe (by norm_num), ← EReal.coe_mul, ← EReal.coe_add, Ideal.rsqrt_coe, if_neg (not_lt.2 h.le), if_neg h.ne']

variable {x w bf bm g}

theorem square_nonneg (a : EReal) : 0 ≤ a * a := by
  induction a with
  | bot => simp
  | top => simp
  | coe r => rw [← EReal.coe_mul]; exact EReal.coe_nonneg.2 (mul_self_nonneg r)

/-- A row over its root mean square is real: zero where an entry is infinite. -/
theorem scaled_real (f : Fin 1024 → EReal) (k : Fin 1024) : ∃ r : ℝ,
    f k * Ideal.rsqrt (Ideal.div (∑ i, f i * f i) (Ideal.ofBits .f32 0x44800000#32) + Ideal.ofBits .f32 0x358637BD#32) = r := by
  by_cases h : ∀ i, ∃ r : ℝ, f i = r
  · choose X hX using h
    simp only [hX, ← EReal.coe_mul]
    rw [← Cert.InprojMath.coe_sum, inv_root _ (Finset.sum_nonneg fun i _ => mul_self_nonneg _), ← EReal.coe_mul]
    exact ⟨_, rfl⟩
  · obtain ⟨i, hi⟩ := not_forall.1 h
    have top : f i * f i = ⊤ := by
      generalize f i = a at hi
      induction a with
      | bot => simp
      | top => simp
      | coe r => exact absurd ⟨r, rfl⟩ hi
    have sum : ∑ i, f i * f i = ⊤ :=
      top_le_iff.1 (top ▸ Finset.single_le_sum (f := fun i => f i * f i) (fun i _ => square_nonneg (f i)) (Finset.mem_univ i))
    rw [sum, w1024, weps, Ideal.div_coe (by norm_num), EReal.top_mul_coe_of_pos (by norm_num), EReal.top_add_coe, Ideal.rsqrt_top, mul_zero]
    exact ⟨0, EReal.coe_zero.symm⟩

theorem normed_real (F : Finite w bf bm g) (k : Fin 1024) : ∃ r : ℝ, normed x g (ix3 b s k) = r := by
  obtain ⟨r, hr⟩ := scaled_real (fun k => x (ix3 b s k)) k
  obtain ⟨q, hq⟩ := F.g k
  refine ⟨r * q, ?_⟩
  pointwise [normed]
  rw [hq, EReal.coe_mul]
  exact congrArg (· * _) hr

theorem proj_real (F : Finite w bf bm g) (j : Fin 3600) (h : ∀ k, ∃ r : ℝ, w (ix2 k j) = r) : ∃ r : ℝ, proj x w g (ix3 b s j) = r := by
  choose N hN using normed_real (x := x) b s F
  choose W hW using h
  rw [proj_at]
  simp only [hN, hW, ← EReal.coe_mul]
  rw [← Cert.InprojMath.coe_sum]
  exact ⟨_, rfl⟩

theorem add_real {a c : EReal} (ha : ∃ r : ℝ, a = r) (hc : ∃ r : ℝ, c = r) : ∃ r : ℝ, a + c = r := by
  obtain ⟨r, rfl⟩ := ha
  obtain ⟨q, rfl⟩ := hc
  exact ⟨r + q, (EReal.coe_add r q).symm⟩

/-- Outside the input gates' columns a logit is real. -/
theorem logit_real (F : Finite w bf bm g) (j : Fin 128) (hj : ¬ (8 ≤ j.val ∧ j.val < 12)) :
    ∃ r : ℝ, logit x w bf bi bm g b s j = r := by
  unfold logit
  by_cases h8 : j.val < 8
  · simp only [dif_pos h8]
    exact add_real (proj_real b s F _ fun k => F.ff k ⟨j.val, h8⟩) (F.bf _)
  · simp only [dif_neg h8, dif_neg (show ¬ j.val < 12 by omega)]
    by_cases h16 : j.val < 16
    · simp only [dif_pos h16]
      refine add_real (proj_real b s F _ fun k => ?_) (F.bm _)
      obtain ⟨r, hr⟩ := F.mf k ⟨j.val - 12, by omega⟩
      exact ⟨r, (congrArg (fun i => w (ix2 k i)) (Fin.ext (show 3072 + j.val = 3084 + (j.val - 12) by omega))).trans hr⟩
    · simp only [dif_neg h16]
      exact ⟨0, by simp⟩

variable (x w bf bm g)

/-- A column's logit at row `n`, as a real. -/
def real (j : Fin 128) (n : ℕ) : ℝ := if h : n < 4096 then (logit x w bf bi bm g b ⟨n, h⟩ j).toReal else 0

variable {x w bf bm g}

theorem logit_eq (F : Finite w bf bm g) (j : Fin 128) (hj : ¬ (8 ≤ j.val ∧ j.val < 12)) :
    logit x w bf bi bm g b s j = ((real x w bf bi bm g b j s.val : ℝ) : EReal) := by
  obtain ⟨r, hr⟩ := logit_real bi b s F j hj
  unfold real
  rw [dif_pos s.isLt, show (⟨s.val, s.isLt⟩ : Fin 4096) = s from rfl, hr, EReal.toReal_coe]

/-- The reference's decay, in the logits. -/
theorem decay_eq (F : Finite w bf bm g) (h : Fin 8) : decay x w bf g (ix3 b s h)
    = (((∑ u ∈ Finset.range (s.val + 1), Cert.InprojMath.logsig (real x w bf bi bm g b ⟨h.val, by omega⟩ u)) * (Real.log 2)⁻¹ : ℝ) : EReal) := by
  rw [decay_at x w bf g b s h (fun u => real x w bf bi bm g b ⟨h.val, by omega⟩ u.val), Cert.InprojMath.sum_le s.isLt (fun u => Cert.InprojMath.logsig (real x w bf bi bm g b ⟨h.val, by omega⟩ u))]
  intro u
  rw [← logit_eq bi b u F _ (by dsimp only; omega), foxLogit_at]
  unfold logit
  simp only [dif_pos h.isLt]

/-- The reference's sum within a chunk, in the logits. -/
theorem chunkSum_eq (F : Finite w bf bm g) (j : Fin 116) : chunkSum x w bm g (ix3 b s j)
    = ((∑ u ∈ Finset.range (s.val % 128 + 1), Cert.InprojMath.logsig (real x w bf bi bm g b ⟨j.val + 12, by omega⟩ (s.val / 128 * 128 + u)) : ℝ) : EReal) := by
  rw [chunkSum_at x w bm g b s j (fun u => real x w bf bi bm g b ⟨j.val + 12, by omega⟩ u.val),
    ← Cert.InprojMath.sum_le (N := 128) (n := s.val % 128) (by omega) (fun u => Cert.InprojMath.logsig (real x w bf bi bm g b ⟨j.val + 12, by omega⟩ (s.val / 128 * 128 + u)))]
  intro u
  rw [← logit_eq bi b u F _ (by dsimp only; omega), mlLogit_at]
  unfold logit
  have h8 : ¬ j.val + 12 < 8 := by omega
  have h12 : ¬ j.val + 12 < 12 := by omega
  simp only [dif_neg h8, dif_neg h12]
  by_cases h4 : j.val < 4
  · have h16 : j.val + 12 < 16 := by omega
    simp only [dif_pos h4, dif_pos h16]
    exact congrArg₂ (· + ·) (congrArg (fun i => proj x w g (ix3 b u i)) (Fin.ext (show 3084 + j.val = 3072 + (j.val + 12) by omega)))
      (congrArg (fun i => bm (ix1 i)) (Fin.ext (show j.val = j.val + 12 - 12 by omega)))
  · have h16 : ¬ j.val + 12 < 16 := by omega
    simp only [dif_neg h4, dif_neg h16, add_zero]

end Cert.InprojLogit

end
-- ==== Proof.InprojCarry.lean ====
module

public import proofs.«01_k».proof.Proof.InprojOpen
public import proofs.«01_k».proof.Proof.InprojBlocks
public import proofs.«01_k».proof.Proof.InprojRows
public import proofs.«01_k».proof.Proof.InprojLogit

/-! A block's products, logits, running sums and carry, in the arguments. -/

@[expose] public section

set_option maxRecDepth 16384

noncomputable section

namespace Cert.InprojIdeal.Carry

open Cert.InprojIdeal Cert.InprojIdeal.Gen Cert.InprojIdeal.Open Cert.InprojIdeal.Blocks Idealize.ShloMosaic Idealize.ShloMosaic.TcCoe Idealize.SL.Sem

variable (m : (ℓ : Loc nD τ sig) → Buf (Elt Ideal) ℓ) (c : Dev nD) (t : Fin cfg0.N)

abbrev xIn : FVec Ideal S16x4096x1024 .f32 := m ((c.tc : Thread nD τ).loc main_arg0)
abbrev bfIn : FVec Ideal S8 .f32 := m ((c.tc : Thread nD τ).loc main_arg2)
abbrev biIn : FVec Ideal S4 .f32 := m ((c.tc : Thread nD τ).loc main_arg3)
abbrev bmIn : FVec Ideal S4 .f32 := m ((c.tc : Thread nD τ).loc main_arg4)
abbrev gIn : FVec Ideal S1024 .f32 := m ((c.tc : Thread nD τ).loc main_arg5)

/-- The normed rows of a block. -/
theorem normed_at (p : Fin 512) (k : Fin 1024) : normed m c t (ix2 p k)
    = Cert.InprojRefIdeal.Rows.normed (xIn m c) (gIn m c) (ix3 (bat t) (tok t p) k) :=
  Rows.normed_eq p (bat t) (tok t p) _ _ _ _ (fun k => blk0 m c t p k) (fun k => blk1 m c t k) k

/-- A column of the product is a column of the reference's projection. -/
theorem prod_at (p : Fin 512) (q : Fin 2688) (hq : q.val < 2576) : prod m c t (ix2 p q)
    = Cert.InprojRefIdeal.Rows.proj (xIn m c) (wIn m c) (gIn m c) (ix3 (bat t) (tok t p)
        ⟨if q.val < 512 then 512 + q.val else if q.val < 2048 then 1032 + q.val else if q.val < 2560 then 1040 + q.val
          else if q.val < 2568 then q.val - 1024 else 512 + q.val, by split_ifs <;> omega⟩) := by
  refine (Rows.prod_eq p _ _ _ _ (normed_at m c t p) q).trans ?_
  rw [Cert.InprojRefIdeal.Rows.proj_at]
  refine Finset.sum_congr rfl fun k _ => congrArg _ ((blk2 m c t k q).trans (dif_pos hq))

/-- The padded columns are zero. -/
theorem prod_pad (p : Fin 512) (q : Fin 2688) (hq : ¬ q.val < 2576) : prod m c t (ix2 p q) = 0 := by
  refine (Rows.prod_eq p _ _ _ _ (normed_at m c t p) q).trans ?_
  refine Finset.sum_eq_zero fun k _ => ?_
  exact (congrArg _ ((blk2 m c t k q).trans (dif_neg hq))).trans (mul_zero _)

/-- The logits of a block. -/
theorem gates_at (p : Fin 512) (j : Fin 128) : gates m c t (ix2 p j)
    = Cert.InprojLogit.logit (xIn m c) (wIn m c) (bfIn m c) (biIn m c) (bmIn m c) (gIn m c) (bat t) (tok t p) j := by
  refine (Rows.gate_row p _ _ j).trans ?_
  unfold Cert.InprojLogit.logit
  refine congrArg₂ (· + ·) ?_ (blk4 m c t j)
  have key : ∀ a b : Fin 3600, a = b → Cert.InprojRefIdeal.Rows.proj (xIn m c) (wIn m c) (gIn m c) (ix3 (bat t) (tok t p) a)
      = Cert.InprojRefIdeal.Rows.proj (xIn m c) (wIn m c) (gIn m c) (ix3 (bat t) (tok t p) b) := fun a b h => by rw [h]
  by_cases h8 : j.val < 8
  · rw [dif_pos h8]
    refine (prod_at m c t p ⟨2560 + j.val, by omega⟩ (by dsimp only; omega)).trans (key _ _ (Fin.ext ?_))
    dsimp only
    split_ifs <;> omega
  · rw [dif_neg h8]
    by_cases h16 : j.val < 16
    · rw [dif_pos h16]
      refine (prod_at m c t p ⟨2560 + j.val, by omega⟩ (by dsimp only; omega)).trans (key _ _ (Fin.ext ?_))
      dsimp only
      split_ifs <;> omega
    · rw [dif_neg h16]
      exact prod_pad m c t p ⟨2560 + j.val, by omega⟩ (by dsimp only; omega)

abbrev Real : Prop := Cert.InprojLogit.Finite (wIn m c) (bfIn m c) (bmIn m c) (gIn m c)

/-- A column's log forget gate at row `n` of a batch entry. -/
def gate (b : Fin 16) (j : Fin 128) (n : ℕ) : ℝ := Cert.InprojMath.logsig
  (Cert.InprojLogit.real (xIn m c) (wIn m c) (bfIn m c) (biIn m c) (bmIn m c) (gIn m c) b j n)

variable {m c} (H : Real m c) (j : Fin 128) (hj : ¬ (8 ≤ j.val ∧ j.val < 12))
include H hj

/-- The running sum within the block. -/
theorem sums_at (p : Fin 512) : k0_pay12 (F := Ideal) (sums3 m c t) (sums1 m c t) (ix2 p j)
    = ((∑ u ∈ Finset.range (p.val + 1), gate m c (bat t) j (512 * (t.val % 8) + u) : ℝ) : EReal) := by
  refine (Rows.sums_row p _ _ _ j
    (fun q => Cert.InprojLogit.real (xIn m c) (wIn m c) (bfIn m c) (biIn m c) (bmIn m c) (gIn m c) (bat t) j (512 * (t.val % 8) + q.val))
    (fun q => (gates_at m c t q j).trans (Cert.InprojLogit.logit_eq (biIn m c) (bat t) (tok t q) H j hj))
    (fun p q => blk5 m c t p q)).trans ?_
  exact congrArg _ (Cert.InprojMath.sum_le p.isLt (fun u => gate m c (bat t) j (512 * (t.val % 8) + u)))

/-- The carry is the sum of all the rows before the block. -/
theorem carry_at : carry m c t (ix2 0 j) = ((∑ u ∈ Finset.range (512 * (t.val % 8)), gate m c (bat t) j u : ℝ) : EReal) := by
  obtain ⟨n, hn⟩ := t
  induction n with
  | zero =>
    rw [carry_A m c ⟨0, hn⟩ rfl]
    refine (Rows.first_carry j).trans ?_
    exact EReal.coe_zero.symm.trans (congrArg _ (by simp))
  | succ n ih =>
    by_cases h0 : (n + 1) % 8 = 0
    · rw [carry_A m c ⟨n + 1, hn⟩ h0]
      refine (Rows.first_carry j).trans ?_
      have e : 512 * ((n + 1) % 8) = 0 := by rw [h0]
      exact EReal.coe_zero.symm.trans (congrArg _ (by dsimp only; rw [e]; simp))
    · have hn' : n < cfg0.N := Nat.lt_of_succ_lt hn
      rw [carry_B m c ⟨n + 1, hn⟩ h0]
      have e1 : 512 * ((n + 1) % 8) = 512 * (n % 8) + (511 + 1) := by omega
      have e2 : bat (⟨n + 1, hn⟩ : Fin cfg0.N) = bat (⟨n, hn'⟩ : Fin cfg0.N) := Fin.ext (show (n + 1) / 8 = n / 8 by omega)
      refine (congrFun (out_carry m c ⟨n, hn'⟩) (ix2 0 j)).trans ?_
      refine (Rows.carry_row _ _ _ j).trans ?_
      rw [ih hn', sums_at ⟨n, hn'⟩ H j hj 511, ← EReal.coe_add, e2]
      dsimp only
      rw [e1, Finset.sum_range_add _ (512 * (n % 8)) (511 + 1)]
      rfl

/-- The decay from the start of the batch entry. -/
theorem decay_at (p : Fin 512) : k0_pay13 (F := Ideal) (sums3 m c t) (sums1 m c t) (carry m c t) (ix2 p j)
    = (((∑ u ∈ Finset.range (512 * (t.val % 8) + p.val + 1), gate m c (bat t) j u) * (Real.log 2)⁻¹ : ℝ) : EReal) := by
  refine (Rows.decay_row p _ _ _ j).trans ?_
  rw [carry_at t H j hj, sums_at t H j hj p, ← EReal.coe_add, ← EReal.coe_mul, add_assoc, Finset.sum_range_add _ (512 * (t.val % 8)) (p.val + 1)]

/-- The sum within a chunk of 128 rows. -/
theorem chunk_at (p : Fin 512) :
    (if h : p.val < 128 then k0_pay12 (F := Ideal) (sums3 m c t) (sums1 m c t) (ix2 p j)
      else k0_pay12 (F := Ideal) (sums3 m c t) (sums1 m c t) (ix2 p j)
        - k0_pay12 (F := Ideal) (sums3 m c t) (sums1 m c t) (ix2 ⟨p.val / 128 * 128 - 1, by omega⟩ j))
    = ((∑ u ∈ Finset.range (p.val % 128 + 1), gate m c (bat t) j (512 * (t.val % 8) + (p.val / 128 * 128 + u)) : ℝ) : EReal) := by
  by_cases h : p.val < 128
  · rw [dif_pos h, sums_at t H j hj p]
    have e1 : p.val % 128 = p.val := by omega
    have e2 : p.val / 128 * 128 = 0 := by omega
    rw [e1, e2]
    simp only [zero_add]
  · rw [dif_neg h, sums_at t H j hj p, sums_at t H j hj, ← EReal.coe_sub]
    dsimp only
    have e1 : p.val / 128 * 128 - 1 + 1 = p.val / 128 * 128 := by omega
    have e2 : p.val - p.val / 128 * 128 = p.val % 128 := by omega
    rw [e1, Cert.InprojMath.sum_chunk _ _ _ (by omega), e2]

end Cert.InprojIdeal.Carry

end
-- ==== Proof.InprojValue.lean ====
module

public import proofs.«01_k».proof.Proof.InprojCarry
public import Idealize.ShloMosaic.Lib.Pointwise
public import Idealize.ShloMosaic.Lib.Pipeline.ValueKit

/-! Every output block of the projection kernel is a block of the reference's result. -/

@[expose] public section

set_option maxRecDepth 16384

noncomputable section

namespace Cert.InprojIdeal.Final

open Cert.InprojIdeal Cert.InprojIdeal.Gen Cert.InprojIdeal.Open Cert.InprojIdeal.Blocks Cert.InprojIdeal.Carry Idealize.ShloMosaic Idealize.ShloMosaic.TcCoe Idealize.SL.Sem

variable (m : (ℓ : Loc nD τ sig) → Buf (Elt Ideal) ℓ) (c : Dev nD) (t : Fin cfg0.N)

abbrev keys : FVec Ideal S16x4096x512 .bf16 := Cert.InprojRefIdeal.Rows.keys (xIn m c) (wIn m c) (gIn m c)
abbrev mz : FVec Ideal S16x4096x2048 .bf16 := Cert.InprojRefIdeal.Rows.mz (xIn m c) (wIn m c) (gIn m c)
abbrev qvt : FVec Ideal S16x1024x4096 .bf16 := Cert.InprojRefIdeal.Rows.qvt (xIn m c) (wIn m c) (gIn m c)
abbrev gm : FVec Ideal S16x4096x128 .f32 := Cert.InprojRefIdeal.Rows.gm (xIn m c) (wIn m c) (bfIn m c) (biIn m c) (bmIn m c) (gIn m c)
abbrev gmt : FVec Ideal S16x128x4096 .f32 := Cert.InprojRefIdeal.Rows.gmt (xIn m c) (wIn m c) (bfIn m c) (biIn m c) (bmIn m c) (gIn m c)
abbrev caug : FVec Ideal S16x4096x128 .bf16 := Cert.InprojRefIdeal.Rows.caug (xIn m c) (wIn m c) (bfIn m c) (gIn m c)

theorem proj_congr (b : Fin 16) (s : Fin 4096) (i j : Fin 3600) (h : i.val = j.val) :
    Cert.InprojRefIdeal.Rows.proj (xIn m c) (wIn m c) (gIn m c) (ix3 b s i)
      = Cert.InprojRefIdeal.Rows.proj (xIn m c) (wIn m c) (gIn m c) (ix3 b s j) := by rw [Fin.ext h]

/-- The keys. -/
theorem block7 (p : Fin 512) (j : Fin 512) : (outsAt0 m c t.val t.isLt).1 (ix3 0 p j) = keys m c (ix3 (bat t) (tok t p) j) := by
  refine (congrFun (out7 m c t) _).trans ((Rows.keys_row p _ _ _ j).trans ?_)
  refine (prod_at m c t p ⟨j.val, by omega⟩ (by dsimp only; omega)).trans ?_
  refine (proj_congr m c _ _ _ _ ?_).trans (Cert.InprojRefIdeal.Rows.keys_at _ _ _ _ _ j).symm
  dsimp only
  split_ifs <;> omega

/-- The recurrence's projections. -/
theorem block8 (p : Fin 512) (j : Fin 2048) : (outsAt0 m c t.val t.isLt).2.1 (ix3 0 p j) = mz m c (ix3 (bat t) (tok t p) j) := by
  refine (congrFun (out8 m c t) _).trans ((Rows.mz_row p _ _ _ j).trans ?_)
  refine (prod_at m c t p ⟨512 + j.val, by omega⟩ (by dsimp only; omega)).trans ?_
  refine (proj_congr m c _ _ _ _ ?_).trans (Cert.InprojRefIdeal.Rows.mz_at _ _ _ _ _ j).symm
  dsimp only
  split_ifs <;> omega

/-- A row of the transposed product. -/
theorem turned (p : Fin 512) (e : Fin 1024) (v : FVec Ideal S512x1024 .bf16) (i : Fin 512)
    (hv : ∀ k, v (ix2 i k) = (show FVec Ideal S1024x1024 .bf16 from iblk m c 3 t) (ix2 e k)) :
    (∑ k : Fin 1024, v (ix2 i k) * normed m c t (ix2 p k))
      = Cert.InprojRefIdeal.Rows.proj (xIn m c) (wIn m c) (gIn m c) (ix3 (bat t) (tok t p) ⟨if e.val < 512 then e.val else 512 + e.val, by split_ifs <;> omega⟩) := by
  rw [Cert.InprojRefIdeal.Rows.proj_at]
  refine Finset.sum_congr rfl fun k _ => ?_
  rw [hv k, normed_at, mul_comm]
  exact congrArg _ (blk3 m c t e k)

/-- The lower half of the turned block: the values. -/
theorem values (p : Fin 512) (e : Fin 1024) (i : Fin 512) (hi : e.val = 512 + i.val) :
    k0_pay8 (F := Ideal) (normed m c t) (View.ld (iblk m c 3 t) (Rect.unit (s := S1024x1024) ![512, 0] ![512, 1024] inb_S1024x1024_S512x1024_512_0)) (ix3 0 i p)
      = qvt m c (ix3 (bat t) e (tok t p)) := by
  refine (Rows.value_row p _ _ i).trans ((turned m c t p e _ i fun k => ?_).trans ?_)
  · refine congrArg (iblk m c 3 t) (?_ : _ = (ix2 e k : S1024x1024.Idx))
    blk_ext [hi]
    · exact Rect.idx_unit_val _ _ _ _ _
    · exact (Rect.idx_unit_val _ _ _ _ _).trans (Nat.zero_add _)
  · refine Eq.trans ?_ (Cert.InprojRefIdeal.Rows.qvt_at _ _ _ _ _ e).symm
    have he : ¬ e.val < 512 := by omega
    rw [dif_neg he]
    exact proj_congr m c _ _ _ _ (if_neg he)

/-- The upper half: the scaled queries. -/
theorem queries (p : Fin 512) (e : Fin 1024) (i : Fin 512) (hi : e.val = i.val) :
    k0_pay7 (F := Ideal) (normed m c t) (View.ld (iblk m c 3 t) (Rect.unit (s := S1024x1024) ![0, 0] ![512, 1024] inb_S1024x1024_S512x1024_0_0)) (ix3 0 i p)
      = qvt m c (ix3 (bat t) e (tok t p)) := by
  refine (Rows.query_row p _ _ i).trans ((congrArg (· * _) (turned m c t p e _ i fun k => ?_)).trans ?_)
  · refine congrArg (iblk m c 3 t) (?_ : _ = (ix2 e k : S1024x1024.Idx))
    blk_ext [hi]
    · exact (Rect.idx_unit_val _ _ _ _ _).trans (Nat.zero_add _)
    · exact (Rect.idx_unit_val _ _ _ _ _).trans (Nat.zero_add _)
  · refine Eq.trans ?_ (Cert.InprojRefIdeal.Rows.qvt_at _ _ _ _ _ e).symm
    have he : e.val < 512 := by omega
    rw [dif_pos he, Cert.InprojMath.div_log2, mul_assoc, ← EReal.coe_mul]
    exact congrArg (· * _) (proj_congr m c _ _ _ _ (if_pos he))

/-- The queries and the values, transposed. -/
theorem block9 (p : Fin 512) (e : Fin 1024) : (outsAt0 m c t.val t.isLt).2.2.1 (ix3 0 e p) = qvt m c (ix3 (bat t) e (tok t p)) := by
  by_cases hc : t.val % 8 = 0
  · rw [outsAt0_A m c t hc]
    frame_out
    canon_tiles x h
    · idx_vars x
      obtain rfl : x0 = 0 := Subsingleton.elim _ _
      obtain rfl : p = x2 := Fin.ext h2
      exact values m c t p e x1 h1
    · idx_vars x
      obtain rfl : x0 = 0 := Subsingleton.elim _ _
      obtain rfl : p = x2 := Fin.ext h2
      exact queries m c t p e x1 h1
  · rw [outsAt0_B m c t hc]
    frame_out
    canon_tiles x h
    · idx_vars x
      obtain rfl : x0 = 0 := Subsingleton.elim _ _
      obtain rfl : p = x2 := Fin.ext h2
      exact values m c t p e x1 h1
    · idx_vars x
      obtain rfl : x0 = 0 := Subsingleton.elim _ _
      obtain rfl : p = x2 := Fin.ext h2
      exact queries m c t p e x1 h1

variable {m c} (H : Real m c)
include H

theorem mixed_at (p : Fin 512) (j : Fin 128) : k0_pay15 (F := Ideal) (gates m c t) (sums3 m c t) (sums1 m c t) (carry m c t) (ix2 p j)
    = gm m c (ix3 (bat t) (tok t p) j) := by
  refine (Rows.mixed_row p _ _ _ _ j).trans ?_
  refine Eq.trans ?_ (Cert.InprojRefIdeal.Rows.gm_at _ _ _ _ _ _ _ _ j).symm
  by_cases h8 : j.val < 8
  · rw [if_pos h8, dif_pos h8]
    refine (decay_at t H j (by omega) p).trans ?_
    exact (Cert.InprojLogit.decay_eq (biIn m c) (bat t) (tok t p) H ⟨j.val, h8⟩).symm
  · rw [if_neg h8, dif_neg h8]
    by_cases h12 : j.val < 12
    · rw [if_pos h12, dif_pos h12]
      refine (gates_at m c t p j).trans ?_
      rw [Cert.InprojRefIdeal.Rows.inGate_at]
      unfold Cert.InprojLogit.logit
      rw [dif_neg h8, dif_neg h8, dif_pos h12, dif_pos (show j.val < 16 by omega)]
      exact congrArg₂ (· + ·) (proj_congr m c _ _ _ _ (show 3072 + j.val = 3080 + (j.val - 8) by omega)) rfl
    · rw [if_neg h12, dif_neg h12]
      refine (chunk_at t H j (by omega) p).trans ?_
      refine Eq.trans ?_ (Cert.InprojLogit.chunkSum_eq (biIn m c) (bat t) (tok t p) H ⟨j.val - 12, by omega⟩).symm
      have e1 : (tok t p).val % 128 = p.val % 128 := by unfold tok; dsimp only; omega
      have e2 : ∀ u, 512 * (t.val % 8) + (p.val / 128 * 128 + u) = (tok t p).val / 128 * 128 + u := fun u => by unfold tok; dsimp only; omega
      have e3 : (⟨j.val - 12 + 12, by omega⟩ : Fin 128) = j := Fin.ext (by dsimp only; omega)
      simp only [e1, e2, e3]
      rfl

/-- The gates. -/
theorem block10 (p : Fin 512) (j : Fin 128) : (outsAt0 m c t.val t.isLt).2.2.2.1 (ix3 0 p j) = gm m c (ix3 (bat t) (tok t p) j) :=
  (congrFun (out10 m c t) _).trans ((Rows.gm_row p _ _ _ _ j).trans (mixed_at t H p j))

/-- The gates, transposed. -/
theorem block11 (p : Fin 512) (j : Fin 128) : (outsAt0 m c t.val t.isLt).2.2.2.2.1 (ix3 0 j p) = gmt m c (ix3 (bat t) j (tok t p)) :=
  (congrFun (out11 m c t) _).trans ((Rows.gmt_row p _ _ _ _ j).trans ((mixed_at t H p j).trans (Cert.InprojRefIdeal.Rows.gmt_at _ _ _ _ _ _ _ _ j).symm))

/-- The decays, a head's in the first of its three columns. -/
theorem block12 (p : Fin 512) (j : Fin 128) : (outsAt0 m c t.val t.isLt).2.2.2.2.2.1 (ix3 0 p j) = caug m c (ix3 (bat t) (tok t p) j) := by
  refine (congrFun (out12 m c t) _).trans ?_
  refine (Rows.placed_row p _ _ (fun i j => blk6 m c t i j)
    (fun k => (∑ u ∈ Finset.range (512 * (t.val % 8) + p.val + 1), gate m c (bat t) ⟨k.val, by omega⟩ u) * (Real.log 2)⁻¹)
    (fun k => decay_at t H ⟨k.val, by omega⟩ (by dsimp only; omega) p) j).trans ?_
  refine Eq.trans ?_ (Cert.InprojRefIdeal.Rows.caug_at _ _ _ _ _ _ j).symm
  by_cases q : j.val < 24 ∧ j.val % 3 = 0
  · rw [dif_pos q, dif_pos q]
    refine (decay_at t H ⟨j.val / 3, by omega⟩ (by dsimp only; omega) p).trans ?_
    exact (Cert.InprojLogit.decay_eq (biIn m c) (bat t) (tok t p) H ⟨j.val / 3, by omega⟩).symm
  · rw [dif_neg q, dif_neg q]

end Cert.InprojIdeal.Final

end
-- ==== Proof.InprojFinal.lean ====
module

public import proofs.«01_k».proof.Proof.InprojValue

/-! The projection kernel's six result arrays are the reference's. -/

@[expose] public section

set_option maxRecDepth 16384

noncomputable section

namespace Cert.InprojIdeal.Final

open Cert.InprojIdeal Cert.InprojIdeal.Gen Cert.InprojIdeal.Open Cert.InprojIdeal.Blocks Cert.InprojIdeal.Carry Idealize.ShloMosaic Idealize.ShloMosaic.TcCoe Idealize.SL.Sem

variable (m : (ℓ : Loc nD τ sig) → Buf (Elt Ideal) ℓ) (c : Dev nD)

/-- The keys after the run. -/
theorem final7 : (dats m 0 c).arrAt 7 (cfgs 0).N = keys m c := by
  refine (dats m 0 c).arrAt_eq_of_covers 7 _ (by decide +kernel) fun t _ y => ?_
  rw [after0_7]
  idx_vars y
  have e : ((View.whole main_v47_0).slice (win0_7.rect t)).emb (ix3 y0 y1 y2) = (ix3 (bat t) (tok t y1) y2 : S16x4096x512.Idx) := by
    unfold bat tok
    blk_ext [idx t]
  blk_simp
  rw [e]
  obtain rfl : y0 = 0 := Subsingleton.elim _ _
  exact block7 m c t y1 y2

/-- The recurrence's projections after the run. -/
theorem final8 : (dats m 0 c).arrAt 8 (cfgs 0).N = mz m c := by
  refine (dats m 0 c).arrAt_eq_of_covers 8 _ (by decide +kernel) fun t _ y => ?_
  rw [after0_8]
  idx_vars y
  have e : ((View.whole main_v47_1).slice (win0_8.rect t)).emb (ix3 y0 y1 y2) = (ix3 (bat t) (tok t y1) y2 : S16x4096x2048.Idx) := by
    unfold bat tok
    blk_ext [idx t]
  blk_simp
  rw [e]
  obtain rfl : y0 = 0 := Subsingleton.elim _ _
  exact block8 m c t y1 y2

/-- The queries and values after the run. -/
theorem final9 : (dats m 0 c).arrAt 9 (cfgs 0).N = qvt m c := by
  refine (dats m 0 c).arrAt_eq_of_covers 9 _ (by decide +kernel) fun t _ y => ?_
  rw [after0_9]
  idx_vars y
  have e : ((View.whole main_v47_2).slice (win0_9.rect t)).emb (ix3 y0 y1 y2) = (ix3 (bat t) y1 (tok t y2) : S16x1024x4096.Idx) := by
    unfold bat tok
    blk_ext [idx t]
  blk_simp
  rw [e]
  obtain rfl : y0 = 0 := Subsingleton.elim _ _
  exact block9 m c t y2 y1

variable {m c} (H : Real m c)
include H

/-- The gates after the run. -/
theorem final10 : (dats m 0 c).arrAt 10 (cfgs 0).N = gm m c := by
  refine (dats m 0 c).arrAt_eq_of_covers 10 _ (by decide +kernel) fun t _ y => ?_
  rw [after0_10]
  idx_vars y
  have e : ((View.whole main_v47_3).slice (win0_10.rect t)).emb (ix3 y0 y1 y2) = (ix3 (bat t) (tok t y1) y2 : S16x4096x128.Idx) := by
    unfold bat tok
    blk_ext [idx t]
  blk_simp
  rw [e]
  obtain rfl : y0 = 0 := Subsingleton.elim _ _
  exact block10 t H y1 y2

/-- The transposed gates after the run. -/
theorem final11 : (dats m 0 c).arrAt 11 (cfgs 0).N = gmt m c := by
  refine (dats m 0 c).arrAt_eq_of_covers 11 _ (by decide +kernel) fun t _ y => ?_
  rw [after0_11]
  idx_vars y
  have e : ((View.whole main_v47_4).slice (win0_11.rect t)).emb (ix3 y0 y1 y2) = (ix3 (bat t) y1 (tok t y2) : S16x128x4096.Idx) := by
    unfold bat tok
    blk_ext [idx t]
  blk_simp
  rw [e]
  obtain rfl : y0 = 0 := Subsingleton.elim _ _
  exact block11 t H y2 y1

/-- The decays after the run. -/
theorem final12 : (dats m 0 c).arrAt 12 (cfgs 0).N = caug m c := by
  refine (dats m 0 c).arrAt_eq_of_covers 12 _ (by decide +kernel) fun t _ y => ?_
  rw [after0_12]
  idx_vars y
  have e : ((View.whole main_v47_5).slice (win0_12.rect t)).emb (ix3 y0 y1 y2) = (ix3 (bat t) (tok t y1) y2 : S16x4096x128.Idx) := by
    unfold bat tok
    blk_ext [idx t]
  blk_simp
  rw [e]
  obtain rfl : y0 = 0 := Subsingleton.elim _ _
  exact block12 t H y1 y2

end Cert.InprojIdeal.Final

end
-- ==== Proof.InprojPre.lean ====
module

public import proofs.«01_k».proof.Pre_finite_inproj
public import proofs.«01_k».proof.Proof.FoxPre
public import proofs.«01_k».proof.Proof.InprojLogit
public import Idealize.ShloMosaic.Lib.ReduceAll
public import Idealize.ShloMosaic.Lib.Claim

/-! What the precondition of the projection says: the gain, the forget gates' weights and biases are real numbers. -/

@[expose] public section

set_option maxRecDepth 16384

noncomputable section

namespace Cert.InprojPre

open Cert.Pre_finite_inproj Cert.FoxPre Idealize.ShloMosaic

variable [Facts] (a0 : FVec Ideal S16x4096x1024 .f32) (a1 : FVec Ideal S1024x3600 .f32) (a2 : FVec Ideal S8 .f32)
  (a3 a4 : FVec Ideal S4 .f32) (a5 : FVec Ideal S1024 .f32)

theorem finite (h : fn (F := Ideal) a0 a1 a2 a3 a4 a5 = fun _ => 1#1) : Cert.InprojLogit.Finite a1 a2 a4 a5 := by
  have h1 := congrFun h ix0
  unfold fn fn_part1 at h1
  dsimp only at h1
  obtain ⟨h2, hbm⟩ := IntOp.andi_eq_one.1 h1
  obtain ⟨h3, hbf⟩ := IntOp.andi_eq_one.1 h2
  obtain ⟨h4, hmf⟩ := IntOp.andi_eq_one.1 h3
  obtain ⟨hg, hff⟩ := IntOp.andi_eq_one.1 h4
  have hg' := Host.reduce_andi_all _ _ _ _ ix0 hg
  have hff' := Host.reduce_andi_all _ _ _ _ ix0 hff
  have hmf' := Host.reduce_andi_all _ _ _ _ ix0 hmf
  have hbf' := Host.reduce_andi_all _ _ _ _ ix0 hbf
  have hbm' := Host.reduce_andi_all _ _ _ _ ix0 hbm
  refine ⟨fun k => ?_, fun k j => ?_, fun k j => ?_, fun j => ?_, fun j => ?_⟩
  · have := hg' (ix1 k)
    pointwise at this
    exact real_of_cmp _ this
  · have := hff' (ix2 k j)
    pointwise at this
    exact real_of_cmp _ this
  · have := hmf' (ix2 k j)
    pointwise at this
    exact real_of_cmp _ this
  · have := hbf' (ix1 j)
    pointwise at this
    exact real_of_cmp _ this
  · have := hbm' (ix1 j)
    pointwise at this
    exact real_of_cmp _ this

end Cert.InprojPre

end
-- ==== Proof.InprojClaims.lean ====
module

public import proofs.«01_k».proof.Defs
public import proofs.«01_k».proof.Proof.Gen.Inproj.Frame
public import proofs.«01_k».proof.Proof.Gen.InprojIdeal.Value
public import proofs.«01_k».proof.Proof.Gen.InprojRefIdeal.Run
public import proofs.«01_k».proof.Proof.Gen.Pre_finite_inproj
public import proofs.«01_k».proof.Proof.InprojFinal
public import proofs.«01_k».proof.Proof.InprojPre

/-! The claims about the input projection. -/

@[expose] public section

set_option maxRecDepth 16384

noncomputable section

namespace Cert.Proof.InprojClaims

open Idealize.ShloMosaic Idealize.SL.Sem

theorem frame_p : Cert.quiescent_Inproj := fun m ρ _ => Cert.Inproj.Gen.frame m ρ
theorem frame_pi : Cert.quiescent_InprojIdeal := fun m ρ _ => Cert.InprojIdeal.Gen.frame m ρ
theorem frame_ri : Cert.quiescent_InprojRefIdeal := fun m ρ _ =>
  (θ_run Cert.InprojRefIdeal.defs _ _).mono (fun r h => ⟨fun c => (h c).2.2.2.2.2.2, sem_eq_zero_of_no_sems (by decide) r.2⟩)
    (Cert.InprojRefIdeal.Value.run (F := Ideal) m ρ)

theorem preserves : Cert.preserves_Inproj_InprojIdeal :=
  ⟨IdealRules.named_const.statement Cert.InprojIdeal.κ "qscale" .f32 0x3E38AA3B#32 (((1 / 8) * (Real.log 2)⁻¹ : ℝ) : EReal) rfl,
    IdealRules.named_const.statement Cert.InprojIdeal.κ "log2e" .f32 0x3FB8AA3B#32 (((Real.log 2)⁻¹ : ℝ) : EReal) rfl⟩

set_option maxHeartbeats 2000000 in
/-- From agreeing arguments both end at the reference's six results of the kernel's arguments. -/
theorem algebraic : Cert.algebraic_InprojIdeal_InprojRefIdeal_pre_finite_inproj := by
  intro m g m' g' hpre hagree
  refine ⟨_, _, _, _, _, _, Cert.InprojIdeal.Value.run_blocks (F := Ideal) m g, ?_⟩
  refine (θ_run Cert.InprojRefIdeal.defs _ _).mono (fun _ h c => ?_) (Cert.InprojRefIdeal.Value.run (F := Ideal) m' g')
  obtain ⟨a0, a1, a2, a3, a4, a5⟩ := hagree c
  have H := Cert.InprojPre.finite _ _ _ _ _ _ (hpre c)
  obtain ⟨r0, r1, r2, r3, r4, r5, kept⟩ := h c
  have e0 := r0.trans (show _ = Cert.InprojRefIdeal.Rows.keys (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg5)) from rfl)
  rw [a0, a1, a5] at e0
  have e1 := r1.trans (show _ = Cert.InprojRefIdeal.Rows.mz (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg5)) from rfl)
  rw [a0, a1, a5] at e1
  have e2 := r2.trans (show _ = Cert.InprojRefIdeal.Rows.qvt (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg5)) from rfl)
  rw [a0, a1, a5] at e2
  have e3 := r3.trans (show _ = Cert.InprojRefIdeal.Rows.gm (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) (m' ((c.tc : Thread Cert.InprojRefIdeal.nD Cert.InprojRefIdeal.τ).loc Cert.InprojRefIdeal.main_arg5)) from rfl)
  rw [a0, a1, a2, a3, a4, a5] at e3
  have e4 := r4.trans (show _ = Cert.InprojRefIdeal.Rows.gmt (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg3)) (m' ((c.tc : Thread Cert.InprojRefIdeal.nD Cert.InprojRefIdeal.τ).loc Cert.InprojRefIdeal.main_arg4)) (m' ((c.tc : Thread Cert.InprojRefIdeal.nD Cert.InprojRefIdeal.τ).loc Cert.InprojRefIdeal.main_arg5)) from rfl)
  rw [a0, a1, a2, a3, a4, a5] at e4
  have e5 := r5.trans (show _ = Cert.InprojRefIdeal.Rows.caug (m' ((c.tc : Thread Cert.InprojRefIdeal.nD Cert.InprojRefIdeal.τ).loc Cert.InprojRefIdeal.main_arg0)) (m' ((c.tc : Thread Cert.InprojRefIdeal.nD Cert.InprojRefIdeal.τ).loc Cert.InprojRefIdeal.main_arg1)) (m' ((c.tc : Thread Cert.InprojRefIdeal.nD Cert.InprojRefIdeal.τ).loc Cert.InprojRefIdeal.main_arg2)) (m' ((c.tc : Thread Cert.InprojRefIdeal.nD Cert.InprojRefIdeal.τ).loc Cert.InprojRefIdeal.main_arg5)) from rfl)
  rw [a0, a1, a2, a5] at e5
  exact ⟨e0.trans (Cert.InprojIdeal.Final.final7 m c).symm, e1.trans (Cert.InprojIdeal.Final.final8 m c).symm, e2.trans (Cert.InprojIdeal.Final.final9 m c).symm, e3.trans (Cert.InprojIdeal.Final.final10 H).symm, e4.trans (Cert.InprojIdeal.Final.final11 H).symm, e5.trans (Cert.InprojIdeal.Final.final12 H).symm, kept⟩

end Cert.Proof.InprojClaims

end
-- ==== Proof.lean ====
module

public import proofs.«01_k».proof.Defs
public import proofs.«01_k».proof.Proof.FoxClaims
public import proofs.«01_k».proof.Proof.TailClaims
public import proofs.«01_k».proof.Proof.InprojClaims
public import Idealize.ShloMosaic.Adequacy
public import Idealize.ShloMosaic.Init

@[expose] public section

noncomputable section

namespace Cert.Proof

open Idealize.ShloMosaic Idealize.SL.Sem

theorem claim : Cert.Claim :=
  ⟨Cert.Fox.Gen.facts, Cert.FoxIdeal.Gen.facts, Cert.FoxRefIdeal.Gen.facts,
    Cert.Tail.Gen.facts, Cert.TailIdeal.Gen.facts, Cert.TailRefIdeal.Gen.facts,
    Cert.Inproj.Gen.facts, Cert.InprojIdeal.Gen.facts, Cert.InprojRefIdeal.Gen.facts, Cert.Pre_finite_fox.Gen.facts, Cert.Pre_finite_inproj.Gen.facts,
    FoxClaims.frame_p, FoxClaims.frame_pi, fun m ρ _ => FoxClaims.frame_pi m ρ trivial,
    FoxClaims.frame_ri, fun m ρ _ => FoxClaims.frame_ri m ρ trivial,
    TailClaims.frame_p, TailClaims.frame_pi, TailClaims.frame_ri,
    InprojClaims.frame_p, InprojClaims.frame_pi, fun m ρ _ => InprojClaims.frame_pi m ρ trivial,
    InprojClaims.frame_ri, fun m ρ _ => InprojClaims.frame_ri m ρ trivial,
    FoxClaims.preserves, FoxClaims.algebraic, TailClaims.preserves, TailClaims.algebraic,
    InprojClaims.preserves, InprojClaims.algebraic⟩

end Cert.Proof

end
